-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x16x64 : Shape := ⟨4, ![4, 4096, 16, 64]⟩
abbrev S4x1x16x64x64 : Shape := ⟨5, ![4, 1, 16, 64, 64]⟩
abbrev S4x4096x16 : Shape := ⟨3, ![4, 4096, 16]⟩
abbrev S_ : Shape := ⟨0, ![]⟩

class Facts : Prop where
  bcast_S_S4x4096x16x64 : S_.BroadcastsInDim S4x4096x16x64 (![] : Fin 0 → Fin S4x4096x16x64.rank)
  bcast_S_S4x4096x16 : S_.BroadcastsInDim S4x4096x16 (![] : Fin 0 → Fin S4x4096x16.rank)

variable [Facts]

def fn {F : FTy → Type} [FloatOps F] (main_arg0 : FVec F S4x4096x16x64 .f32) (main_arg1 : FVec F S4x1x16x64x64 .f32) (main_arg2 : FVec F S4x4096x16 .f32) (main_arg3 : FVec F S4x4096x16x64 .f32) (main_arg4 : FVec F S4x4096x16x64 .f32) : IVec S4x4096x16x64 1 × IVec S4x4096x16 1 × IVec S4x4096x16x64 1 × IVec S4x4096x16x64 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_v3 : FVec F S4x4096x16 .f32 := Host.absf main_arg2
  let main_cst_0 : FVec F S_ .f32 := constant S_ .f32 0x7F800000#32
  let main_v4 : FVec F S4x4096x16 .f32 := broadcastInDim S4x4096x16 ![] bcast_S_S4x4096x16 main_cst_0
  let main_v5 : IVec S4x4096x16 1 := cmpf .olt main_v3 main_v4
  let main_v6 : FVec F S4x4096x16x64 .f32 := Host.absf main_arg3
  let main_cst_1 : FVec F S_ .f32 := constant S_ .f32 0x7F800000#32
  let main_v7 : FVec F S4x4096x16x64 .f32 := broadcastInDim S4x4096x16x64 ![] bcast_S_S4x4096x16x64 main_cst_1
  let main_v8 : IVec S4x4096x16x64 1 := cmpf .olt main_v6 main_v7
  let main_v9 : FVec F S4x4096x16x64 .f32 := Host.absf main_arg4
  let main_cst_2 : FVec F S_ .f32 := constant S_ .f32 0x7F800000#32
  let main_v10 : FVec F S4x4096x16x64 .f32 := broadcastInDim S4x4096x16x64 ![] bcast_S_S4x4096x16x64 main_cst_2
  let main_v11 : IVec S4x4096x16x64 1 := cmpf .olt main_v9 main_v10
  (main_v2, main_v5, main_v8, main_v11)
-- ==== Kernel.lean ====
abbrev S4x4096x16x64 : Shape := ⟨4, ![4, 4096, 16, 64]⟩
abbrev S4x1x16x64x64 : Shape := ⟨5, ![4, 1, 16, 64, 64]⟩
abbrev S4x4096x16 : Shape := ⟨3, ![4, 4096, 16]⟩
abbrev S4x4096x1024 : Shape := ⟨3, ![4, 4096, 1024]⟩
abbrev S4x16x64x64 : Shape := ⟨4, ![4, 16, 64, 64]⟩
abbrev S1x1024x1024 : Shape := ⟨3, ![1, 1024, 1024]⟩
abbrev S1x1024x16 : Shape := ⟨3, ![1, 1024, 16]⟩
abbrev S1x16x64x64 : Shape := ⟨4, ![1, 16, 64, 64]⟩
abbrev S16x64x64 : Shape := ⟨3, ![16, 64, 64]⟩
abbrev S256x256 : Shape := ⟨2, ![256, 256]⟩
abbrev S1x256x16 : Shape := ⟨3, ![1, 256, 16]⟩
abbrev S256x16 : Shape := ⟨2, ![256, 16]⟩
abbrev S16x256 : Shape := ⟨2, ![16, 256]⟩
abbrev S16x1 : Shape := ⟨2, ![16, 1]⟩
abbrev S16x255 : Shape := ⟨2, ![16, 255]⟩
abbrev S16x2 : Shape := ⟨2, ![16, 2]⟩
abbrev S16x254 : Shape := ⟨2, ![16, 254]⟩
abbrev S16x4 : Shape := ⟨2, ![16, 4]⟩
abbrev S16x252 : Shape := ⟨2, ![16, 252]⟩
abbrev S16x8 : Shape := ⟨2, ![16, 8]⟩
abbrev S16x248 : Shape := ⟨2, ![16, 248]⟩
abbrev S16x16 : Shape := ⟨2, ![16, 16]⟩
abbrev S16x240 : Shape := ⟨2, ![16, 240]⟩
abbrev S16x32 : Shape := ⟨2, ![16, 32]⟩
abbrev S16x224 : Shape := ⟨2, ![16, 224]⟩
abbrev S16x64 : Shape := ⟨2, ![16, 64]⟩
abbrev S16x192 : Shape := ⟨2, ![16, 192]⟩
abbrev S16x128 : Shape := ⟨2, ![16, 128]⟩
abbrev S1x256x64 : Shape := ⟨3, ![1, 256, 64]⟩
abbrev S256x64 : Shape := ⟨2, ![256, 64]⟩
abbrev S1x64x64 : Shape := ⟨3, ![1, 64, 64]⟩
abbrev S64x64 : Shape := ⟨2, ![64, 64]⟩
abbrev S256x1 : Shape := ⟨2, ![256, 1]⟩
abbrev S1x1 : Shape := ⟨2, ![1, 1]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x16x64, .f32⟩
  | .hbm, ⟨1, _⟩ => ⟨S4x1x16x64x64, .f32⟩
  | .hbm, ⟨2, _⟩ => ⟨S4x4096x16, .f32⟩
  | .hbm, ⟨3, _⟩ => ⟨S4x4096x16x64, .f32⟩
  | .hbm, ⟨4, _⟩ => ⟨S4x4096x16x64, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x16x64x64, .f32⟩
  | .hbm, ⟨9, _⟩ => ⟨S4x4096x1024, .f32⟩
  | .hbm, ⟨10, _⟩ => ⟨S4x4096x16x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x16, .f32⟩
  | .local _ .vmem, ⟨3, _⟩ => ⟨S1x1024x16, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x16x64x64, .f32⟩
  | .local _ .vmem, ⟨9, _⟩ => ⟨S1x16x64x64, .f32⟩
  | .local _ .vmem, ⟨10, _⟩ => ⟨S1x1024x1024, .f32⟩
  | .local _ .vmem, ⟨11, _⟩ => ⟨S1x1024x1024, .f32⟩
  | .local _ .vmem, ⟨12, _⟩ => ⟨S16x64x64, .f32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x16x64 : Shape := ⟨4, ![4, 4096, 16, 64]⟩
abbrev S4x1x16x64x64 : Shape := ⟨5, ![4, 1, 16, 64, 64]⟩
abbrev S4x4096x16 : Shape := ⟨3, ![4, 4096, 16]⟩
abbrev S4x64x64x16x64 : Shape := ⟨5, ![4, 64, 64, 16, 64]⟩
abbrev S4x64x64x16 : Shape := ⟨4, ![4, 64, 64, 16]⟩
abbrev S4x16x64x64 : Shape := ⟨4, ![4, 16, 64, 64]⟩
abbrev S_ : Shape := ⟨0, ![]⟩
abbrev S4x16x64x64x1 : Shape := ⟨5, ![4, 16, 64, 64, 1]⟩
abbrev S4x16x64x1x64 : Shape := ⟨5, ![4, 16, 64, 1, 64]⟩
abbrev S4x16x64x64x64 : Shape := ⟨5, ![4, 16, 64, 64, 64]⟩
abbrev S64x64 : Shape := ⟨2, ![64, 64]⟩
abbrev S4x64x16x64x64 : Shape := ⟨5, ![4, 64, 16, 64, 64]⟩
abbrev S4x16x64x1 : Shape := ⟨4, ![4, 16, 64, 1]⟩
abbrev S4x64x64x16x1 : Shape := ⟨5, ![4, 64, 64, 16, 1]⟩
abbrev S4x65x16x64x64 : Shape := ⟨5, ![4, 65, 16, 64, 64]⟩
abbrev S4x16x64 : Shape := ⟨3, ![4, 16, 64]⟩
abbrev S4x16x65 : Shape := ⟨3, ![4, 16, 65]⟩
abbrev S4x16x65x1 : Shape := ⟨4, ![4, 16, 65, 1]⟩
abbrev S4x16x1x65 : Shape := ⟨4, ![4, 16, 1, 65]⟩
abbrev S4x16x65x65 : Shape := ⟨4, ![4, 16, 65, 65]⟩
abbrev S65x65 : Shape := ⟨2, ![65, 65]⟩
abbrev S4x16x64x64x65 : Shape := ⟨5, ![4, 16, 64, 64, 65]⟩

abbrev nBuf : Space → Nat
  | .hbm => 95
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x1x16x64x64, .f32⟩
  | .hbm, ⟨2, _⟩ => ⟨S4x4096x16, .f32⟩
  | .hbm, ⟨3, _⟩ => ⟨S4x4096x16x64, .f32⟩
  | .hbm, ⟨4, _⟩ => ⟨S4x4096x16x64, .f32⟩
  | .hbm, ⟨5, _⟩ => ⟨S4x64x64x16x64, .f32⟩
  | .hbm, ⟨6, _⟩ => ⟨S4x64x64x16, .f32⟩
  | .hbm, ⟨7, _⟩ => ⟨S4x16x64x64, .f32⟩
  | .hbm, ⟨8, _⟩ => ⟨S4x64x64x16x64, .f32⟩
  | .hbm, ⟨9, _⟩ => ⟨S4x64x64x16x64, .f32⟩
  | .hbm, ⟨10, _⟩ => ⟨S_, .f32⟩
  | .hbm, ⟨11, _⟩ => ⟨S_, .f32⟩
  | .hbm, ⟨12, _⟩ => ⟨S4x16x64x64, .f32⟩
  | .hbm, ⟨13, _⟩ => ⟨S_, .f32⟩
  | .hbm, ⟨14, _⟩ => ⟨S_, .f32⟩
  | .hbm, ⟨15, _⟩ => ⟨S4x16x64x64, .f32⟩
  | .hbm, ⟨16, _⟩ => ⟨S4x16x64x64x1, .f32⟩
  | .hbm, ⟨17, _⟩ => ⟨S4x16x64x1x64, .f32⟩
  | .hbm, ⟨18, _⟩ => ⟨S4x16x64x64x64, .f32⟩
  | .hbm, ⟨19, _⟩ => ⟨S4x16x64x64x64, .f32⟩
  | .hbm, ⟨20, _⟩ => ⟨S4x16x64x64x64, .f32⟩
  | .hbm, ⟨21, _⟩ => ⟨S_, .i1⟩
  | .hbm, ⟨22, _⟩ => ⟨S64x64, .i1⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S_, .i1⟩
  | .hbm, ⟨30, _⟩ => ⟨S64x64, .i1⟩
  | .hbm, ⟨31, _⟩ => ⟨S64x64, .i1⟩
  | .hbm, ⟨32, _⟩ => ⟨S_, .f32⟩
  | .hbm, ⟨33, _⟩ => ⟨S_, .f32⟩
  | .hbm, ⟨34, _⟩ => ⟨S4x16x64x64x64, .i1⟩
  | .hbm, ⟨35, _⟩ => ⟨S4x16x64x64x64, .f32⟩
  | .hbm, ⟨36, _⟩ => ⟨S4x16x64x64x64, .f32⟩
  | .hbm, ⟨37, _⟩ => ⟨S4x16x64x64x64, .f32⟩
  | .hbm, ⟨38, _⟩ => ⟨S4x64x16x64x64, .f32⟩
  | .hbm, ⟨39, _⟩ => ⟨S4x64x16x64x64, .f32⟩
  | .hbm, ⟨40, _⟩ => ⟨S4x64x16x64x64, .f32⟩
  | .hbm, ⟨41, _⟩ => ⟨S4x64x16x64x64, .f32⟩
  | .hbm, ⟨42, _⟩ => ⟨S4x64x64x16x64, .f32⟩
  | .hbm, ⟨43, _⟩ => ⟨S4x16x64x1, .f32⟩
  | .hbm, ⟨44, _⟩ => ⟨S4x16x64x64, .f32⟩
  | .hbm, ⟨45, _⟩ => ⟨S4x16x64x64, .f32⟩
  | .hbm, ⟨46, _⟩ => ⟨S4x16x64x64, .f32⟩
  | .hbm, ⟨47, _⟩ => ⟨S4x64x64x16, .f32⟩
  | .hbm, ⟨48, _⟩ => ⟨S4x64x64x16x1, .f32⟩
  | .hbm, ⟨49, _⟩ => ⟨S4x64x64x16x64, .f32⟩
  | .hbm, ⟨50, _⟩ => ⟨S4x64x64x16x64, .f32⟩
  | .hbm, ⟨51, _⟩ => ⟨S4x64x16x64x64, .f32⟩
  | .hbm, ⟨52, _⟩ => ⟨S4x65x16x64x64, .f32⟩
  | .hbm, ⟨53, _⟩ => ⟨S4x16x64x1, .f32⟩
  | .hbm, ⟨54, _⟩ => ⟨S4x16x64, .f32⟩
  | .hbm, ⟨55, _⟩ => ⟨S_, .i32⟩
  | .hbm, ⟨56, _⟩ => ⟨S_, .f32⟩
  | .hbm, ⟨57, _⟩ => ⟨S4x16x65, .f32⟩
  | .hbm, ⟨58, _⟩ => ⟨S_, .f32⟩
  | .hbm, ⟨59, _⟩ => ⟨S_, .f32⟩
  | .hbm, ⟨60, _⟩ => ⟨S4x16x65, .f32⟩
  | .hbm, ⟨61, _⟩ => ⟨S4x16x65x1, .f32⟩
  | .hbm, ⟨62, _⟩ => ⟨S4x16x1x65, .f32⟩
  | .hbm, ⟨63, _⟩ => ⟨S4x16x65x65, .f32⟩
  | .hbm, ⟨64, _⟩ => ⟨S4x16x65x65, .f32⟩
  | .hbm, ⟨65, _⟩ => ⟨S4x16x65x65, .f32⟩
  | .hbm, ⟨66, _⟩ => ⟨S_, .i1⟩
  | .hbm, ⟨67, _⟩ => ⟨S65x65, .i1⟩
  | .hbm, ⟨68, _⟩ => ⟨S65x65, .i32⟩
  | .hbm, ⟨69, _⟩ => ⟨S_, .i32⟩
  | .hbm, ⟨70, _⟩ => ⟨S65x65, .i32⟩
  | .hbm, ⟨71, _⟩ => ⟨S65x65, .i32⟩
  | .hbm, ⟨72, _⟩ => ⟨S65x65, .i32⟩
  | .hbm, ⟨73, _⟩ => ⟨S65x65, .i1⟩
  | .hbm, ⟨74, _⟩ => ⟨S_, .i1⟩
  | .hbm, ⟨75, _⟩ => ⟨S65x65, .i1⟩
  | .hbm, ⟨76, _⟩ => ⟨S65x65, .i1⟩
  | .hbm, ⟨77, _⟩ => ⟨S_, .f32⟩
  | .hbm, ⟨78, _⟩ => ⟨S_, .f32⟩
  | .hbm, ⟨79, _⟩ => ⟨S4x16x65x65, .i1⟩
  | .hbm, ⟨80, _⟩ => ⟨S4x16x65x65, .f32⟩
  | .hbm, ⟨81, _⟩ => ⟨S4x16x65x65, .f32⟩
  | .hbm, ⟨82, _⟩ => ⟨S4x16x65x65, .f32⟩
  | .hbm, ⟨83, _⟩ => ⟨S4x16x64x64x65, .f32⟩
  | .hbm, ⟨84, _⟩ => ⟨S4x65x16x64x64, .f32⟩
  | .hbm, ⟨85, _⟩ => ⟨S4x64x16x64x64, .f32⟩
  | .hbm, ⟨86, _⟩ => ⟨S4x16x64x64, .f32⟩
  | .hbm, ⟨87, _⟩ => ⟨S4x64x16x64x64, .f32⟩
  | .hbm, ⟨88, _⟩ => ⟨S4x64x64x16x64, .f32⟩
  | .hbm, ⟨89, _⟩ => ⟨S4x64x64x16, .f32⟩
  | .hbm, ⟨90, _⟩ => ⟨S4x64x64x16x1, .f32⟩
  | .hbm, ⟨91, _⟩ => ⟨S4x64x64x16x64, .f32⟩
  | .hbm, ⟨92, _⟩ => ⟨S4x64x64x16x64, .f32⟩
  | .hbm, ⟨93, _⟩ => ⟨S4x64x64x16x64, .f32⟩
  | .hbm, ⟨94, _⟩ => ⟨S4x4096x16x64, .f32⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_call1_call0_cst : Ref sig .tc := ⟨.hbm, 13, rfl⟩
abbrev main_call1_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_call2_v0 : Ref sig .tc := ⟨.hbm, 23, rfl⟩
abbrev main_call2_c : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_c_0 : Ref sig .tc := ⟨.hbm, 29, rfl⟩
abbrev main_call2_v5 : Ref sig .tc := ⟨.hbm, 30, rfl⟩
abbrev main_v13 : Ref sig .tc := ⟨.hbm, 31, rfl⟩
abbrev main_cst : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_0 : Ref sig .tc := ⟨.hbm, 55, rfl⟩
abbrev main_call4_v0 : Ref sig .tc := ⟨.hbm, 56, rfl⟩
abbrev main_v33 : Ref sig .tc := ⟨.hbm, 57, rfl⟩
abbrev main_call5_call0_cst : Ref sig .tc := ⟨.hbm, 58, rfl⟩
abbrev main_call5_call0_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_1 : Ref sig .tc := ⟨.hbm, 66, rfl⟩
abbrev main_v40 : Ref sig .tc := ⟨.hbm, 67, rfl⟩
abbrev main_call6_v0 : Ref sig .tc := ⟨.hbm, 68, rfl⟩
abbrev main_call6_c : Ref sig .tc := ⟨.hbm, 69, rfl⟩
abbrev main_call6_v1 : Ref sig .tc := ⟨.hbm, 70, rfl⟩
abbrev main_call6_v2 : Ref sig .tc := ⟨.hbm, 71, rfl⟩
abbrev main_call6_v3 : Ref sig .tc := ⟨.hbm, 72, rfl⟩
abbrev main_call6_v4 : Ref sig .tc := ⟨.hbm, 73, rfl⟩
abbrev main_call6_c_0 : Ref sig .tc := ⟨.hbm, 74, rfl⟩
abbrev main_call6_v5 : Ref sig .tc := ⟨.hbm, 75, rfl⟩
abbrev main_v41 : Ref sig .tc := ⟨.hbm, 76, rfl⟩
abbrev main_cst_2 : Ref sig .tc := ⟨.hbm, 77, rfl⟩
abbrev main_call7_v0 : Ref sig .tc := ⟨.hbm, 78, rfl⟩
abbrev main_call7_v1 : Ref sig .tc := ⟨.hbm, 79, rfl⟩
abbrev main_call7_v2 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]
-- ==== Proof.Blk.lean ====
module

public import proofs.«01_k».proof.Proof.Gen.KernelIdeal.Frame

@[expose] public section

set_option maxRecDepth 16384

noncomputable section

namespace Cert.KernelIdeal.Blk

open Cert.KernelIdeal Cert.KernelIdeal.Gen Idealize.ShloMosaic Idealize.ShloMosaic.TcCoe Idealize.SL.Sem

variable {F : FTy → Type} [FloatOps F]

/-! One grid point of the kernel makes 64 steps: step `k` is head `k % 16` of the sub-block of 256 rows `k / 16`. -/

/-- The sub-block of step `k`. -/
abbrev sub (k : ℕ) : ℕ := k / 16 % 4
/-- The head of step `k`. -/
abbrev hd (k : ℕ) : ℕ := k % 16

/-- The box of step `k`'s rows and columns lies in a block of 1024 rows and 16 heads of 64 columns. -/
theorem inbX (k : ℕ) : ∀ a, (![0, 256 * sub k, 64 * hd k] : Fin 3 → ℕ) a + S1x256x64.size a ≤ S1x1024x1024.size a := by
  have h1 : k / 16 % 4 < 4 := Nat.mod_lt _ (by decide)
  have h2 : k % 16 < 16 := Nat.mod_lt _ (by decide)
  intro a
  fin_cases a
  · show 0 + 1 ≤ 1; omega
  · show 256 * (k / 16 % 4) + 256 ≤ 1024; omega
  · show 64 * (k % 16) + 64 ≤ 1024; omega

/-- The box of step `k`'s rows lies in a block of 1024 rows of the decays. -/
theorem inbA (k : ℕ) : ∀ a, (![0, 256 * sub k, 0] : Fin 3 → ℕ) a + S1x256x16.size a ≤ S1x1024x16.size a := by
  have h1 : k / 16 % 4 < 4 := Nat.mod_lt _ (by decide)
  intro a
  fin_cases a
  · show 0 + 1 ≤ 1; omega
  · show 256 * (k / 16 % 4) + 256 ≤ 1024; omega
  · show 0 + 16 ≤ 16; omega

/-- The box of one head's state lies in the state buffer. -/
theorem inbS (k : ℕ) : ∀ a, (![hd k, 0, 0] : Fin 3 → ℕ) a + S1x64x64.size a ≤ S16x64x64.size a := by
  have h2 : k % 16 < 16 := Nat.mod_lt _ (by decide)
  intro a
  fin_cases a
  · show k % 16 + 1 ≤ 16; omega
  · show 0 + 64 ≤ 64; omega
  · show 0 + 64 ≤ 64; omega

/-- One head's column of a 256×16 array. -/
theorem slC (k : ℕ) : S256x16.Slices ![0, hd k] S256x1 := by
  have h2 : k % 16 < 16 := Nat.mod_lt _ (by decide)
  refine ⟨rfl, fun a => ?_⟩
  fin_cases a
  · show 0 + 256 ≤ 256; omega
  · show k % 16 + 1 ≤ 16; omega

/-- One head's entry of a 16×1 array. -/
theorem slE (k : ℕ) : S16x1.Slices ![hd k, 0] S1x1 := by
  have h2 : k % 16 < 16 := Nat.mod_lt _ (by decide)
  refine ⟨rfl, fun a => ?_⟩
  fin_cases a
  · show k % 16 + 1 ≤ 16; omega
  · show 0 + 1 ≤ 1; omega

/-- The scaled second factor of step `k`: the rows of `b`, each times the exponential of minus its prefix sum. -/
def bsc (k : ℕ) (a : Vec F S1x256x16 .f32) (b : Vec F S1x256x64 .f32) : FVec F S256x64 .f32 :=
  mulf (shapeCast S256x64 b shapeCasts_S1x256x64_S256x64)
    (broadcastTo S256x64 (extractStridedSlice S256x1 ![0, hd k] (k0_pay8 (k0_pay6 a) (Scalar.ofBits .f32 0x00000000#32)) (slC k)) broadcasts_S256x1_S256x64)

/-- What step `k` stores into the result block, from its rows of the operands and the head's state. -/
def yPay (k : ℕ) (x : Vec F S1x256x64 .f32) (a : Vec F S1x256x16 .f32) (b c : Vec F S1x256x64 .f32) (r : Vec F S1x64x64 .f32) :
    FVec F S1x256x64 .f32 :=
  shapeCast S1x256x64 (mulf (broadcastTo S256x64 (extractStridedSlice S256x1 ![0, hd k] (k0_pay7 a) (slC k)) broadcasts_S256x1_S256x64)
    (addf (matmul dot_S256x256_S256x64_S256x64_1_0_0_1_n_n none
        (select k0_pay4 (matmul dot_S256x64_S256x64_S256x256_1_1_0_0_n_n none (shapeCast S256x64 c shapeCasts_S1x256x64_S256x64) (bsc k a b) (constant S256x256 .f32 0x00000000#32))
          (broadcast S256x256 (Scalar.ofBits .f32 0x00000000#32)))
        (shapeCast S256x64 x shapeCasts_S1x256x64_S256x64) (constant S256x64 .f32 0x00000000#32))
      (matmul dot_S256x64_S64x64_S256x64_1_1_0_0_n_n none (shapeCast S256x64 c shapeCasts_S1x256x64_S256x64) (shapeCast S64x64 r shapeCasts_S1x64x64_S64x64) (constant S256x64 .f32 0x00000000#32))))
    shapeCasts_S256x64_S1x256x64

/-- What step `k` stores into the head's state. -/
def sPay (k : ℕ) (x : Vec F S1x256x64 .f32) (a : Vec F S1x256x16 .f32) (b : Vec F S1x256x64 .f32) (r : Vec F S1x64x64 .f32) :
    FVec F S1x64x64 .f32 :=
  shapeCast S1x64x64 (mulf (broadcastTo S64x64 (extractStridedSlice S1x1 ![hd k, 0] (k0_pay9 (k0_pay5 a)) (slE k)) broadcasts_S1x1_S64x64)
    (addf (shapeCast S64x64 r shapeCasts_S1x64x64_S64x64)
      (matmul dot_S256x64_S256x64_S64x64_0_0_1_1_n_n none (shapeCast S256x64 x shapeCasts_S1x256x64_S256x64) (bsc k a b) (constant S64x64 .f32 0x00000000#32))))
    shapeCasts_S64x64_S1x64x64

/-- Step `k`'s box of a block of rows. -/
abbrev rX (k : ℕ) : Rect S1x1024x1024 := Rect.unit ![0, 256 * sub k, 64 * hd k] S1x256x64.size (inbX k)
/-- Step `k`'s box of the block of decays. -/
abbrev rA (k : ℕ) : Rect S1x1024x16 := Rect.unit ![0, 256 * sub k, 0] S1x256x16.size (inbA k)
/-- Step `k`'s box of the state buffer. -/
abbrev rS (k : ℕ) : Rect S16x64x64 := Rect.unit ![hd k, 0, 0] S1x64x64.size (inbS k)

section Lists
variable (X B C : ℕ → Vec F S1x256x64 .f32) (A : ℕ → Vec F S1x256x16 .f32)
  (ld : ℕ → List (View.Piece (Elt F) S16x64x64 .f32) → Vec F S1x64x64 .f32)

/-- The stores into the state buffer after `n` steps, newest first, over the stores `L0` made before. -/
def stL (L0 : List (View.Piece (Elt F) S16x64x64 .f32)) (n : ℕ) : List (View.Piece (Elt F) S16x64x64 .f32) :=
  Nat.rec L0 (fun k L => ⟨rS k, sPay k (X k) (A k) (B k) (ld k L)⟩ :: L) n

/-- The stores into the result block after `n` steps, newest first. -/
def yL (L0 : List (View.Piece (Elt F) S16x64x64 .f32)) (n : ℕ) : List (View.Piece (Elt F) S1x1024x1024 .f32) :=
  Nat.rec [] (fun k L => ⟨rX k, yPay k (X k) (A k) (B k) (C k) (ld k (stL X B A ld L0 k))⟩ :: L) n
end Lists

section Bridge
variable (c : Dev nD) (i : grid0.Coords) (arg2 : Memref sig .tc .vmem S1x1024x1024 .f32) (harg2 : arg2.IsWhole) (arg3 : Memref sig .tc .vmem S1x1024x16 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x16x64x64 .f32) (harg6 : arg6.IsWhole) (arg7 : Memref sig .tc .vmem S1x1024x1024 .f32) (harg7 : arg7.IsWhole) (arg8 : Memref sig .tc .vmem S16x64x64 .f32) (harg8 : arg8.IsWhole)
    (x0 : Vec F S1x1024x1024 .f32) (x1 : Vec F S1x1024x16 .f32) (x2 : Vec F S1x1024x1024 .f32) (x3 : Vec F S1x1024x1024 .f32) (x4 : Vec F S1x16x64x64 .f32) (xs0 : Vec F S16x64x64 .f32)

/-- Step `k`'s load of a block of rows held in a staging buffer. -/
abbrev ldX (arg : Memref sig .tc .vmem S1x1024x1024 .f32) (harg : arg.IsWhole) (x : Vec F S1x1024x1024 .f32) (k : ℕ) : Vec F S1x256x64 .f32 :=
  View.readAt (Elt F) arg.view (rX k).toLoadRect (harg.unread x)
/-- Step `k`'s load of the block of decays. -/
abbrev ldA (arg : Memref sig .tc .vmem S1x1024x16 .f32) (harg : arg.IsWhole) (x : Vec F S1x1024x16 .f32) (k : ℕ) : Vec F S1x256x16 .f32 :=
  View.readAt (Elt F) arg.view (rA k).toLoadRect (harg.unread x)
/-- Step `k`'s load of the state buffer at a point that has filled it before. -/
abbrev ldSA (k : ℕ) (L : List (View.Piece (Elt F) S16x64x64 .f32)) : Vec F S1x64x64 .f32 :=
  arg8.view.readCov L (rS k).toLoadRect
/-- Step `k`'s load of the state buffer at a point that goes on from the one before. -/
abbrev ldSB (k : ℕ) (L : List (View.Piece (Elt F) S16x64x64 .f32)) : Vec F S1x64x64 .f32 :=
  cond (Nat.ble 16 k) (arg8.view.readCov L (rS k).toLoadRect) (View.readAt (Elt F) arg8.view (rS k).toLoadRect (harg8.unread xs0))
/-- The store that fills the state buffer at a batch's first point. -/
abbrev L0A : List (View.Piece (Elt F) S16x64x64 .f32) :=
  [⟨Rect.unit ![0, 0, 0] S16x64x64.size inb_S16x64x64_S16x64x64_0_0_0,
      k0_pay3 (View.readAt (Elt F) arg6.view (Rect.unit ![0, 0, 0, 0] S1x16x64x64.size inb_S1x16x64x64_S1x16x64x64_0_0_0_0).toLoadRect (harg6.unread x4))⟩]

/-- The stores into the state buffer at a later point of a batch are the 64 steps'. -/
theorem pieces_B_st (hc0 : ¬cond0_0 i) :
    (kernelRun0_B c i arg2 harg2 arg3 harg3 arg4 harg4 arg5 harg5 arg6 harg6 arg7 harg7 arg8 harg8 hc0 x0 x1 x2 x3 x4 xs0).2.1
      = stL (ldX arg2 harg2 x0) (ldX arg4 harg4 x2) (ldA arg3 harg3 x1) (ldSB arg8 harg8 xs0) [] 64 := by
  sl_kernel_rfl

/-- The stores into the result block at a later point of a batch are the 64 steps'. -/
theorem pieces_B_y (hc0 : ¬cond0_0 i) :
    (kernelRun0_B c i arg2 harg2 arg3 harg3 arg4 harg4 arg5 harg5 arg6 harg6 arg7 harg7 arg8 harg8 hc0 x0 x1 x2 x3 x4 xs0).1
      = yL (ldX arg2 harg2 x0) (ldX arg4 harg4 x2) (ldX arg5 harg5 x3) (ldA arg3 harg3 x1) (ldSB arg8 harg8 xs0) [] 64 := by
  sl_kernel_rfl

/-- The stores into the state buffer at a batch's first point are its filling and the 64 steps'. -/
theorem pieces_A_st (hc0 : cond0_0 i) :
    (kernelRun0_A c i arg2 harg2 arg3 harg3 arg4 harg4 arg5 harg5 arg6 harg6 arg7 harg7 arg8 harg8 hc0 x0 x1 x2 x3 x4).2.1
      = stL (ldX arg2 harg2 x0) (ldX arg4 harg4 x2) (ldA arg3 harg3 x1) (ldSA arg8) (L0A arg6 harg6 x4) 64 := by
  sl_kernel_rfl

/-- The stores into the result block at a batch's first point are the 64 steps'. -/
theorem pieces_A_y (hc0 : cond0_0 i) :
    (kernelRun0_A c i arg2 harg2 arg3 harg3 arg4 harg4 arg5 harg5 arg6 harg6 arg7 harg7 arg8 harg8 hc0 x0 x1 x2 x3 x4).1
      = yL (ldX arg2 harg2 x0) (ldX arg4 harg4 x2) (ldX arg5 harg5 x3) (ldA arg3 harg3 x1) (ldSA arg8) (L0A arg6 harg6 x4) 64 := by
  sl_kernel_rfl

end Bridge
end Cert.KernelIdeal.Blk
end
-- ==== Proof.Spec.lean ====
module

public import Mathlib.Analysis.SpecialFunctions.Exp
public import Mathlib.Algebra.BigOperators.Intervals
public import Mathlib.Algebra.BigOperators.Ring.Finset
public import Mathlib.Tactic.Ring
public import Mathlib.Tactic.Linarith

@[expose] public section

noncomputable section

/-! The scan of one batch entry and one head over the reals: `a` the decays, `x`, `b`, `c` the rows of the three
    factors (time, column), `s0` the state before the first row. No program is named here. -/

namespace Cert.Scan

open Finset Real

/-- The sum of the decays before time `t`. -/
def cum (a : ℕ → ℝ) (t : ℕ) : ℝ := ∑ u ∈ range t, a u

/-- The state before time `t`. -/
def state (a : ℕ → ℝ) (x b s0 : ℕ → ℕ → ℝ) (t p n : ℕ) : ℝ :=
  exp (cum a t) * (s0 p n + ∑ s ∈ range t, x s p * (b s n * exp (-(cum a (s + 1)))))

/-- The result at time `t`, column `p`. -/
def out (a : ℕ → ℝ) (x b c s0 : ℕ → ℕ → ℝ) (t p : ℕ) : ℝ :=
  exp (cum a (t + 1)) * ((∑ s ∈ range (t + 1), (∑ n ∈ range 64, c t n * (b s n * exp (-(cum a (s + 1))))) * x s p)
    + ∑ n ∈ range 64, c t n * s0 p n)

/-- The sum of the decays of the rows `T`, …, `T + j`. -/
def loc (a : ℕ → ℝ) (T j : ℕ) : ℝ := ∑ u ∈ range (j + 1), a (T + u)

theorem cum_add (a : ℕ → ℝ) (T j : ℕ) : cum a (T + j) = cum a T + ∑ u ∈ range j, a (T + u) := by
  unfold cum; rw [sum_range_add]

theorem cum_loc (a : ℕ → ℝ) (T j : ℕ) : cum a (T + j + 1) = cum a T + loc a T j := by
  rw [Nat.add_assoc, cum_add]; rfl

variable (a : ℕ → ℝ) (x b c s0 : ℕ → ℕ → ℝ)

/-- The state after `W` rows more, from the state before them: each row's contribution scaled back by the decays up to it,
    the whole scaled by all of them. -/
theorem state_step (T j p n : ℕ) :
    exp (loc a T j) * (state a x b s0 T p n + ∑ s ∈ range (j + 1), x (T + s) p * (b (T + s) n * exp (-(loc a T s))))
      = state a x b s0 (T + (j + 1)) p n := by
  unfold state
  rw [show cum a (T + (j + 1)) = cum a T + loc a T j from cum_loc a T j, exp_add,
    sum_range_add (fun s => x s p * (b s n * exp (-(cum a (s + 1))))) T (j + 1)]
  have h : ∀ s, x (T + s) p * (b (T + s) n * exp (-(loc a T s)))
      = exp (cum a T) * (x (T + s) p * (b (T + s) n * exp (-(cum a (T + s + 1))))) := by
    intro s
    rw [cum_loc, neg_add, exp_add, exp_neg (cum a T)]
    field_simp
  simp only [h, ← mul_sum]
  ring

/-- The result at row `j` after time `T`, from the state before `T` and the rows since. -/
theorem out_step (T j p : ℕ) :
    exp (loc a T j) * ((∑ s ∈ range (j + 1), (∑ n ∈ range 64, c (T + j) n * (b (T + s) n * exp (-(loc a T s)))) * x (T + s) p)
        + ∑ n ∈ range 64, c (T + j) n * state a x b s0 T p n)
      = out a x b c s0 (T + j) p := by
  unfold out state
  rw [cum_loc, exp_add, Nat.add_assoc T j 1,
    sum_range_add (fun s => (∑ n ∈ range 64, c (T + j) n * (b s n * exp (-(cum a (s + 1))))) * x s p) T (j + 1)]
  have h : ∀ s, (∑ n ∈ range 64, c (T + j) n * (b (T + s) n * exp (-(loc a T s)))) * x (T + s) p
      = exp (cum a T) * ((∑ n ∈ range 64, c (T + j) n * (b (T + s) n * exp (-(cum a (T + s + 1))))) * x (T + s) p) := by
    intro s
    rw [cum_loc, neg_add, exp_add, exp_neg (cum a T), sum_mul, sum_mul, mul_sum]
    refine sum_congr rfl fun n _ => ?_
    field_simp
  have h' : ∑ n ∈ range 64, c (T + j) n * (exp (cum a T) * (s0 p n + ∑ s ∈ range T, x s p * (b s n * exp (-(cum a (s + 1))))))
      = exp (cum a T) * ((∑ s ∈ range T, (∑ n ∈ range 64, c (T + j) n * (b s n * exp (-(cum a (s + 1))))) * x s p)
        + ∑ n ∈ range 64, c (T + j) n * s0 p n) := by
    have : ∑ s ∈ range T, (∑ n ∈ range 64, c (T + j) n * (b s n * exp (-(cum a (s + 1))))) * x s p
        = ∑ n ∈ range 64, c (T + j) n * ∑ s ∈ range T, x s p * (b s n * exp (-(cum a (s + 1)))) := by
      simp only [sum_mul, mul_sum]
      rw [sum_comm]
      exact sum_congr rfl fun n _ => sum_congr rfl fun s _ => by ring
    rw [this, ← sum_add_distrib, mul_sum]
    exact sum_congr rfl fun n _ => by ring
  simp only [h, h', ← mul_sum]
  ring

/-- A sum over `range N` of terms cut off after `j` is the sum up to `j`. -/
theorem sum_cut (f : ℕ → ℝ) {N j : ℕ} (h : j < N) :
    ∑ s ∈ range N, (if s ≤ j then f s else 0) = ∑ s ∈ range (j + 1), f s := by
  rw [← sum_filter]
  refine sum_congr (Finset.ext fun s => ?_) fun _ _ => rfl
  simp only [mem_filter, mem_range]; omega

/-! The blocked form: the rows in blocks of 64, a state per block, the states combined. -/

/-- The decays of a whole block, one position later: nothing at `0`, block `u`'s at `u + 1`. -/
def padded (u : ℕ) : ℝ := match u with
  | 0 => 0
  | u + 1 => loc a (64 * u) 63

/-- The prefix sums of those. -/
def pcum (z : ℕ) : ℝ := ∑ u ∈ range (z + 1), padded a u

theorem pcum_eq (z : ℕ) : pcum a z = cum a (64 * z) := by
  unfold pcum
  induction z with
  | zero => simp [padded, cum]
  | succ z ih =>
    rw [sum_range_succ, ih]
    show cum a (64 * z) + loc a (64 * z) 63 = _
    rw [← cum_loc, Nat.mul_succ]

/-- The state a block starts the combination with: the initial one, then each block's own. -/
def bstate (k p n : ℕ) : ℝ := match k with
  | 0 => s0 p n
  | k + 1 => ∑ l ∈ range 64, exp (loc a (64 * k) 63 - loc a (64 * k) l) * x (64 * k + l) p * b (64 * k + l) n

theorem sum_blocks (f : ℕ → ℝ) (z : ℕ) : ∑ k ∈ range z, ∑ l ∈ range 64, f (64 * k + l) = ∑ s ∈ range (64 * z), f s := by
  induction z with
  | zero => simp
  | succ z ih => rw [sum_range_succ, ih, Nat.mul_succ, sum_range_add]

/-- The combination of the states of the blocks before `z`, each decayed to the start of block `z`, is the state there. -/
theorem combine {z : ℕ} (hz : z < 65) (p n : ℕ) :
    ∑ k ∈ range 65, bstate a x b s0 k p n * (if k ≤ z then exp (pcum a z - pcum a k) else 0) = state a x b s0 (64 * z) p n := by
  have : ∀ k ∈ range 65, bstate a x b s0 k p n * (if k ≤ z then exp (pcum a z - pcum a k) else 0)
      = if k ≤ z then bstate a x b s0 k p n * exp (pcum a z - pcum a k) else 0 := fun k _ => by split <;> simp
  rw [sum_congr rfl this, sum_cut _ hz, sum_range_succ']
  have h1 : ∀ k, bstate a x b s0 (k + 1) p n * exp (pcum a z - pcum a (k + 1))
      = exp (cum a (64 * z)) * ∑ l ∈ range 64, x (64 * k + l) p * (b (64 * k + l) n * exp (-(cum a (64 * k + l + 1)))) := by
    intro k
    rw [pcum_eq, pcum_eq]
    simp only [bstate, sum_mul, mul_sum]
    refine sum_congr rfl fun l _ => ?_
    have e : cum a (64 * (k + 1)) = cum a (64 * k) + loc a (64 * k) 63 := by rw [← cum_loc, Nat.mul_succ]
    have e2 : exp (loc a (64 * k) 63 - loc a (64 * k) l) * exp (cum a (64 * z) - cum a (64 * (k + 1)))
        = exp (cum a (64 * z)) * exp (-(cum a (64 * k + l + 1))) := by
      rw [← exp_add, ← exp_add, e, cum_loc]; congr 1; ring
    calc _ = (exp (loc a (64 * k) 63 - loc a (64 * k) l) * exp (cum a (64 * z) - cum a (64 * (k + 1)))) * (x (64 * k + l) p * b (64 * k + l) n) := by ring
      _ = _ := by rw [e2]; ring
  have h0 : bstate a x b s0 0 p n * exp (pcum a z - pcum a 0) = exp (cum a (64 * z)) * s0 p n := by
    rw [pcum_eq, pcum_eq]; simp [bstate, cum]; ring
  rw [h0]
  simp only [h1]
  rw [← mul_sum, sum_blocks (fun s => x s p * (b s n * exp (-(cum a (s + 1)))))]
  unfold state
  ring

/-- The blocked form's result at row `l` of block `z`. -/
theorem blocked (z : ℕ) {l : ℕ} (hl : l < 64) (p : ℕ) :
    (∑ s ∈ range 64, ((if s ≤ l then exp (loc a (64 * z) l - loc a (64 * z) s) else 0)
        * ∑ n ∈ range 64, b (64 * z + s) n * c (64 * z + l) n) * x (64 * z + s) p)
      + exp (loc a (64 * z) l) * (∑ n ∈ range 64, state a x b s0 (64 * z) p n * c (64 * z + l) n)
      = out a x b c s0 (64 * z + l) p := by
  rw [← out_step]
  have h : ∀ s ∈ range 64, ((if s ≤ l then exp (loc a (64 * z) l - loc a (64 * z) s) else 0)
        * ∑ n ∈ range 64, b (64 * z + s) n * c (64 * z + l) n) * x (64 * z + s) p
      = if s ≤ l then exp (loc a (64 * z) l) * ((∑ n ∈ range 64, c (64 * z + l) n * (b (64 * z + s) n * exp (-(loc a (64 * z) s)))) * x (64 * z + s) p) else 0 := by
    intro s _
    split
    · rw [sub_eq_add_neg, exp_add]
      have : ∑ n ∈ range 64, c (64 * z + l) n * (b (64 * z + s) n * exp (-(loc a (64 * z) s)))
          = (∑ n ∈ range 64, b (64 * z + s) n * c (64 * z + l) n) * exp (-(loc a (64 * z) s)) := by
        rw [sum_mul]; exact sum_congr rfl fun n _ => by ring
      rw [this]; ring
    · simp
  rw [sum_congr rfl h, sum_cut _ hl, ← mul_sum, ← mul_add]
  congr 2
  exact sum_congr rfl fun n _ => by ring

end Cert.Scan
end
-- ==== Proof.Rd.lean ====
module

public import proofs.«01_k».proof.Proof.Blk
public import proofs.«01_k».proof.Proof.Spec
public import Idealize.ShloMosaic.Lib.Pipeline.Value
public import Idealize.ShloMosaic.Lib.ValueIdx
public import Idealize.ShloMosaic.Lib.MatmulPlain
public import Idealize.ShloMosaic.Lib.WordCmp
public import Idealize.ShloMosaic.PureOps.Ideal.Laws

@[expose] public section

noncomputable section

/-! Arrays of extended reals that hold real numbers, and how the operations read on them. -/

namespace Cert.Scan

open Idealize.ShloMosaic Idealize.ShloMosaic.ValueIdx Finset

/-- A sum of real numbers taken in the extended reals is the real sum. -/
theorem coe_sum {ι : Type} (s : Finset ι) (f : ι → ℝ) : ∑ i ∈ s, ((f i : ℝ) : EReal) = ((∑ i ∈ s, f i : ℝ) : EReal) :=
  (map_sum (⟨⟨Real.toEReal, rfl⟩, EReal.coe_add⟩ : ℝ →+ EReal) f s).symm

/-- The same over the positions of an axis, the terms named by the position's number. -/
theorem coe_sum_fin (K : ℕ) (f : ℕ → ℝ) : ∑ k : Fin K, ((f k.val : ℝ) : EReal) = ((∑ k ∈ range K, f k : ℝ) : EReal) := by
  rw [coe_sum, Fin.sum_univ_eq_sum_range (fun k => f k) K]

/-- A matrix that holds the real numbers `f`. -/
def IsR2 {m n : ℕ} (V : (⟨2, ![m, n]⟩ : Shape).Idx → EReal) (f : ℕ → ℕ → ℝ) : Prop :=
  ∀ i : (⟨2, ![m, n]⟩ : Shape).Idx, V i = ((f (i 0).val (i 1).val : ℝ) : EReal)

/-- A matrix below a leading axis of one position that holds the real numbers `f`. -/
def IsU2 {m n : ℕ} (V : (⟨3, ![1, m, n]⟩ : Shape).Idx → EReal) (f : ℕ → ℕ → ℝ) : Prop :=
  ∀ i : (⟨3, ![1, m, n]⟩ : Shape).Idx, V i = ((f (i 1).val (i 2).val : ℝ) : EReal)

theorem IsR2.congr {m n : ℕ} {V : (⟨2, ![m, n]⟩ : Shape).Idx → EReal} {f g : ℕ → ℕ → ℝ} (h : IsR2 V f)
    (e : ∀ i < m, ∀ j < n, f i j = g i j) : IsR2 V g := fun i => by
  rw [h i, e _ (idx2_lt0 i) _ (idx2_lt1 i)]

theorem IsU2.congr {m n : ℕ} {V : (⟨3, ![1, m, n]⟩ : Shape).Idx → EReal} {f g : ℕ → ℕ → ℝ} (h : IsU2 V f)
    (e : ∀ i < m, ∀ j < n, f i j = g i j) : IsU2 V g := fun i => by
  rw [h i, e _ (i 1).isLt _ (i 2).isLt]

theorem IsU2.drop {m n : ℕ} {V : (⟨3, ![1, m, n]⟩ : Shape).Idx → EReal} {f : ℕ → ℕ → ℝ} (h : IsU2 V f)
    (hc : (⟨3, ![1, m, n]⟩ : Shape).ShapeCasts ⟨2, ![m, n]⟩) : IsR2 (shapeCast ⟨2, ![m, n]⟩ V hc) f := fun i => by
  rw [shapeCast_dropUnit_apply, h]; rfl

theorem IsR2.add {m n : ℕ} {V W : FVec Ideal ⟨2, ![m, n]⟩ .f32} {f g : ℕ → ℕ → ℝ} (h : IsR2 V f) (h' : IsR2 W g) :
    IsR2 (addf V W) (fun i j => f i j + g i j) := fun i => by
  rw [addf_apply, h, h', ← EReal.coe_add]

theorem IsR2.mul {m n : ℕ} {V W : FVec Ideal ⟨2, ![m, n]⟩ .f32} {f g : ℕ → ℕ → ℝ} (h : IsR2 V f) (h' : IsR2 W g) :
    IsR2 (mulf V W) (fun i j => f i j * g i j) := fun i => by
  rw [mulf_apply, h, h', ← EReal.coe_mul]

theorem IsR2.exp {m n : ℕ} {V : FVec Ideal ⟨2, ![m, n]⟩ .f32} {f : ℕ → ℕ → ℝ} (h : IsR2 V f) :
    IsR2 (exp V) (fun i j => Real.exp (f i j)) := fun i => by
  show Ideal.exp (V i) = _
  rw [h]; rfl

/-- A plain product of matrices of real numbers. -/
theorem IsR2.mm {M K N : ℕ} {V : FVec Ideal ⟨2, ![M, K]⟩ .f32} {W : FVec Ideal ⟨2, ![K, N]⟩ .f32} {f g : ℕ → ℕ → ℝ}
    (h : IsR2 V f) (h' : IsR2 W g) :
    IsR2 (matmul (DotDims.plain M K N) none V W (constant ⟨2, ![M, N]⟩ .f32 0x00000000#32)) (fun i j => ∑ k ∈ range K, f i k * g k j) := fun i => by
  rw [eq_ix2 i]
  refine (Ideal.matmul_plain_apply none V W _ _ _).trans ?_
  rw [constant_apply, Ideal.ofBits_zero_f32, zero_add, ← coe_sum_fin K]
  refine sum_congr rfl fun k _ => ?_
  rw [h, h', ← EReal.coe_mul]; rfl

/-- A product with the second matrix transposed. -/
theorem IsR2.mmT {M K N : ℕ} {V : FVec Ideal ⟨2, ![M, K]⟩ .f32} {W : FVec Ideal ⟨2, ![N, K]⟩ .f32} {f g : ℕ → ℕ → ℝ}
    (h : IsR2 V f) (h' : IsR2 W g) :
    IsR2 (matmul (DotDims.transposedRhs M K N) none V W (constant ⟨2, ![M, N]⟩ .f32 0x00000000#32)) (fun i j => ∑ k ∈ range K, f i k * g j k) := fun i => by
  rw [eq_ix2 i]
  refine (Ideal.matmul_transposedRhs_apply none V W _ _ _).trans ?_
  rw [constant_apply, Ideal.ofBits_zero_f32, zero_add, ← coe_sum_fin K]
  refine sum_congr rfl fun k _ => ?_
  rw [h, h', ← EReal.coe_mul]; rfl

/-- The sum of the last `W` terms up to `j`. -/
def win (f : ℕ → ℝ) (W j : ℕ) : ℝ := ∑ u ∈ Ico (j + 1 - W) (j + 1), f u

/-- Adding the window that ends `W` before doubles it. -/
theorem win_double (f : ℕ → ℝ) (W j : ℕ) : win f W j + (if j < W then 0 else win f W (j - W)) = win f (2 * W) j := by
  unfold win
  split
  · next h =>
    rw [add_zero, show j + 1 - W = 0 by omega, show j + 1 - 2 * W = 0 by omega]
  · next h =>
    rw [add_comm, show j - W + 1 = j + 1 - W by omega, show j + 1 - W - W = j + 1 - 2 * W by omega]
    exact sum_Ico_consecutive f (by omega) (by omega)

/-- One doubling step of the kernel's prefix sum: a row of windows of length `w` plus the same row shifted `w` to the right. -/
theorem IsR2.shift {m n w w' : ℕ} {v : FVec Ideal ⟨2, ![m, n]⟩ .f32} {f : ℕ → ℕ → ℝ} (hn : w + w' = n)
    (h1 : (⟨2, ![m, n]⟩ : Shape).Slices ![0, 0] ⟨2, ![m, w']⟩)
    (h2 : Shape.Concatenates [(⟨2, ![m, w]⟩ : Shape), ⟨2, ![m, w']⟩] ⟨2, ![m, n]⟩ 1)
    (h : IsR2 v (fun i j => win (f i) w j)) :
    IsR2 (addf v (concatenate ⟨2, ![m, n]⟩ 1 [⟨⟨2, ![m, w]⟩, broadcast ⟨2, ![m, w]⟩ (Scalar.ofBits .f32 0x00000000#32)⟩,
      ⟨⟨2, ![m, w']⟩, extractStridedSlice ⟨2, ![m, w']⟩ ![0, 0] v h1⟩] h2)) (fun i j => win (f i) (2 * w) j) := fun i => by
  have hi0 := idx2_lt0 i
  have hi1 := idx2_lt1 i
  show _ = ((win (f (i 0).val) (2 * w) (i 1).val : ℝ) : EReal)
  rw [addf_apply, ← win_double, EReal.coe_add]
  refine congrArg₂ (· + ·) (h i) ?_
  by_cases hc : (i 1).val < w
  · rw [if_pos hc]
    refine (concatenate_pair_apply_left 1 _ _ h2 i rfl (ix2 ⟨(i 0).val, hi0⟩ ⟨(i 1).val, hc⟩) ?_).trans ?_
    · intro b; match b with | ⟨0, _⟩ => rfl | ⟨1, _⟩ => rfl
    · exact Ideal.ofBits_zero_f32
  · rw [if_neg hc]
    refine (concatenate_pair_apply_right 1 _ _ h2 i rfl rfl (ix2 ⟨(i 0).val, hi0⟩ ⟨(i 1).val - w, by omega⟩) ?_ ?_).trans ?_
    · intro b hb; match b with | ⟨0, _⟩ => rfl | ⟨1, _⟩ => exact absurd rfl hb
    · show (i 1).val - w + w = (i 1).val
      omega
    · refine (extractStridedSlice_apply _ v h1 _ (ix2 ⟨(i 0).val, hi0⟩ ⟨(i 1).val - w, by omega⟩) ?_).trans (h _)
      intro a; match a with | ⟨0, _⟩ => exact (Nat.zero_add _).symm | ⟨1, _⟩ => exact (Nat.zero_add _).symm

/-- A transposed matrix. -/
theorem IsR2.transpose {m n : ℕ} {V : FVec Ideal ⟨2, ![m, n]⟩ .f32} {f : ℕ → ℕ → ℝ} (h : IsR2 V f)
    (ht : (⟨2, ![m, n]⟩ : Shape).Transposes [1, 0] ⟨2, ![n, m]⟩) :
    IsR2 (transpose ⟨2, ![n, m]⟩ [1, 0] V ht) (fun i j => f j i) := fun i => by
  refine (transpose_apply [1, 0] V ht i (ix2 ⟨(i 1).val, idx2_lt1 i⟩ ⟨(i 0).val, idx2_lt0 i⟩) ?_).trans (h _)
  intro b; match b with | ⟨0, _⟩ => rfl | ⟨1, _⟩ => rfl

end Cert.Scan

namespace Cert.KernelIdeal.Blk

open Cert.KernelIdeal Cert.KernelIdeal.Gen Idealize.ShloMosaic Idealize.ShloMosaic.TcCoe Idealize.SL.Sem Cert.Scan Finset
open Idealize.ShloMosaic.ValueIdx

/-- The kernel's prefix sums over 256 rows: eight doubling steps from the transposed decays. -/
theorem csr_isR (a : Vec Ideal S1x256x16 .f32) (fa : ℕ → ℕ → ℝ) (ha : IsU2 a fa) :
    IsR2 (k0_pay5 a : FVec Ideal S16x256 .f32) (fun h j => ∑ u ∈ range (j + 1), fa u h) := by
  have h0 : IsR2 (Idealize.ShloMosaic.transpose S16x256 [1, 0] (shapeCast S256x16 a shapeCasts_S1x256x16_S256x16) transposes_S256x16_p1_0_S16x256 : FVec Ideal S16x256 .f32)
      (fun h j => win (fun u => fa u h) 1 j) :=
    ((ha.drop _).transpose _).congr fun i _ j _ => by simp [win]
  have h8 := ((((((((h0.shift (w' := 255) rfl slices_S16x256_o0_0_S16x255 concatenates_S16x1_S16x255_S16x256_d1).shift (w' := 254) rfl
    slices_S16x256_o0_0_S16x254 concatenates_S16x2_S16x254_S16x256_d1).shift (w' := 252) rfl slices_S16x256_o0_0_S16x252 concatenates_S16x4_S16x252_S16x256_d1).shift (w' := 248) rfl
    slices_S16x256_o0_0_S16x248 concatenates_S16x8_S16x248_S16x256_d1).shift (w' := 240) rfl slices_S16x256_o0_0_S16x240 concatenates_S16x16_S16x240_S16x256_d1).shift (w' := 224) rfl
    slices_S16x256_o0_0_S16x224 concatenates_S16x32_S16x224_S16x256_d1).shift (w' := 192) rfl slices_S16x256_o0_0_S16x192 concatenates_S16x64_S16x192_S16x256_d1).shift (w' := 128) rfl
    slices_S16x256_o0_0_S16x128 concatenates_S16x128_S16x128_S16x256_d1)
  refine IsR2.congr (V := (k0_pay5 a : FVec Ideal S16x256 .f32)) h8 fun i _ j hj => ?_
  simp only [win]
  rw [show j + 1 - 2 * (2 * (2 * (2 * (2 * (2 * (2 * (2 * 1))))))) = 0 by omega, Nat.Ico_zero_eq_range]

end Cert.KernelIdeal.Blk
end
-- ==== Proof.Ext.lean ====
module

public import proofs.«01_k».proof.Proof.Rd

@[expose] public section

noncomputable section

/-! The scan when only its initial state may hold infinities: a state is the initial state scaled, plus the real state
    from zero, and so is a result. -/

namespace Cert.Scan

open Idealize.ShloMosaic Idealize.ShloMosaic.ValueIdx Finset

/-- Scaling by a real number distributes over a sum with a real number. -/
theorem scale_add_coe (c : ℝ) (x : EReal) (y : ℝ) : (c : EReal) * (x + (y : EReal)) = (c : EReal) * x + ((c * y : ℝ) : EReal) := by
  induction x with
  | coe x => norm_cast; ring
  | top =>
    rw [EReal.top_add_coe]
    rcases lt_trichotomy c 0 with h | rfl | h
    · rw [EReal.coe_mul_top_of_neg h, EReal.bot_add]
    · simp
    · rw [EReal.coe_mul_top_of_pos h, EReal.top_add_coe]
  | bot =>
    rw [EReal.bot_add]
    rcases lt_trichotomy c 0 with h | rfl | h
    · rw [EReal.coe_mul_bot_of_neg h, EReal.top_add_coe]
    · simp
    · rw [EReal.coe_mul_bot_of_pos h, EReal.bot_add]

/-- Scaling by a nonnegative real number distributes over every sum. -/
theorem scale_sum {ι : Type} {c : ℝ} (h : 0 ≤ c) (s : Finset ι) (f : ι → EReal) :
    ∑ i ∈ s, (c : EReal) * f i = (c : EReal) * ∑ i ∈ s, f i := by
  classical
  induction s using Finset.induction_on with
  | empty => simp
  | insert i s hi ih =>
    rw [sum_insert hi, sum_insert hi, ih,
      EReal.left_distrib_of_nonneg_of_ne_top (EReal.coe_nonneg.mpr h) (EReal.coe_ne_top c)]

variable (a : ℕ → ℝ) (x b c : ℕ → ℕ → ℝ) (g0 : ℕ → ℕ → EReal)

/-- No initial state. -/
abbrev nil (p n : ℕ) : ℝ := 0

/-- The state before time `t`. -/
def stateE (t p n : ℕ) : EReal :=
  ((Real.exp (cum a t) : ℝ) : EReal) * g0 p n + ((state a x b nil t p n : ℝ) : EReal)

/-- What the initial state adds to a row's result, up to the decays. -/
def headE (t p : ℕ) : EReal := ∑ n : Fin 64, ((c t n.val : ℝ) : EReal) * g0 p n.val

/-- The result at time `t`, column `p`. -/
def outE (t p : ℕ) : EReal :=
  ((Real.exp (cum a (t + 1)) : ℝ) : EReal) * headE c g0 t p + ((out a x b c nil t p : ℝ) : EReal)

theorem stateE_zero (p n : ℕ) : stateE a x b g0 0 p n = g0 p n := by
  unfold stateE state cum
  simp

/-- `state_step` from a state that may hold infinities. -/
theorem stateE_step (T j p n : ℕ) :
    ((Real.exp (loc a T j) : ℝ) : EReal) * (stateE a x b g0 T p n + ((∑ s ∈ range (j + 1), x (T + s) p * (b (T + s) n * Real.exp (-(loc a T s))) : ℝ) : EReal))
      = stateE a x b g0 (T + (j + 1)) p n := by
  unfold stateE
  rw [← state_step, add_assoc, ← EReal.coe_add, scale_add_coe, ← mul_assoc, ← EReal.coe_mul, ← Real.exp_add, add_comm (loc a T j), ← cum_loc]
  rfl

/-- A row of `c` against the state before time `T`. -/
theorem stateE_row (T t p : ℕ) : ∑ n : Fin 64, ((c t n.val : ℝ) : EReal) * stateE a x b g0 T p n.val
    = ((Real.exp (cum a T) : ℝ) : EReal) * headE c g0 t p + ((∑ n ∈ range 64, c t n * state a x b nil T p n : ℝ) : EReal) := by
  unfold stateE headE
  rw [← coe_sum_fin 64, ← scale_sum (Real.exp_pos _).le, ← sum_add_distrib]
  refine sum_congr rfl fun n _ => ?_
  rw [scale_add_coe, mul_left_comm]

/-- `out_step` from a state that may hold infinities. -/
theorem outE_step (T j p : ℕ) :
    ((Real.exp (loc a T j) : ℝ) : EReal) * (((∑ s ∈ range (j + 1), (∑ n ∈ range 64, c (T + j) n * (b (T + s) n * Real.exp (-(loc a T s)))) * x (T + s) p : ℝ) : EReal)
        + ∑ n : Fin 64, ((c (T + j) n.val : ℝ) : EReal) * stateE a x b g0 T p n.val)
      = outE a x b c g0 (T + j) p := by
  rw [stateE_row, add_left_comm, ← EReal.coe_add, scale_add_coe, ← mul_assoc, ← EReal.coe_mul, ← Real.exp_add, add_comm (loc a T j), ← cum_loc, out_step]
  rfl

/-- The state a block starts the combination with. -/
def bstateE (k p n : ℕ) : EReal := match k with
  | 0 => g0 p n
  | k + 1 => ((bstate a x b nil (k + 1) p n : ℝ) : EReal)

/-- `combine` from a state that may hold infinities. -/
theorem combineE {z : ℕ} (hz : z < 65) (p n : ℕ) :
    ∑ k : Fin 65, bstateE a x b g0 k.val p n * ((if k.val ≤ z then Real.exp (pcum a z - pcum a k.val) else 0 : ℝ) : EReal) = stateE a x b g0 (64 * z) p n := by
  have e : Real.exp (pcum a z - pcum a 0) = Real.exp (cum a (64 * z)) := by
    rw [pcum_eq, pcum_eq]
    simp [cum]
  unfold stateE
  rw [← combine a x b nil hz, ← coe_sum_fin 65]
  refine (Fin.sum_univ_succ _).trans (Eq.trans ?_ (congrArg (HAdd.hAdd _) (Fin.sum_univ_succ _).symm))
  refine congrArg₂ (· + ·) ?_ (Eq.trans (sum_congr rfl fun k _ => ?_) ((congrArg (· + _) ?_).trans (zero_add _)).symm)
  · simp only [Fin.val_zero, Nat.zero_le, if_true, e, bstateE, mul_comm]
  · exact (EReal.coe_mul _ _).symm
  · exact (congrArg _ (zero_mul _)).trans EReal.coe_zero

/-- `blocked` from a state that may hold infinities. -/
theorem blockedE (z : ℕ) {l : ℕ} (hl : l < 64) (p : ℕ) :
    ((∑ s ∈ range 64, ((if s ≤ l then Real.exp (loc a (64 * z) l - loc a (64 * z) s) else 0)
        * ∑ n ∈ range 64, b (64 * z + s) n * c (64 * z + l) n) * x (64 * z + s) p : ℝ) : EReal)
      + ((Real.exp (loc a (64 * z) l) : ℝ) : EReal) * (∑ n : Fin 64, ((c (64 * z + l) n.val : ℝ) : EReal) * stateE a x b g0 (64 * z) p n.val)
      = outE a x b c g0 (64 * z + l) p := by
  unfold outE
  rw [stateE_row, scale_add_coe, ← mul_assoc, ← EReal.coe_mul, ← Real.exp_add, add_comm (loc a (64 * z) l), ← cum_loc, add_left_comm, ← EReal.coe_add,
    ← blocked a x b c nil z hl]
  simp only [mul_comm (c (64 * z + l) _)]

/-- A matrix that holds the extended reals `f`. -/
def IsE2 {m n : ℕ} (V : (⟨2, ![m, n]⟩ : Shape).Idx → EReal) (f : ℕ → ℕ → EReal) : Prop :=
  ∀ i : (⟨2, ![m, n]⟩ : Shape).Idx, V i = f (i 0).val (i 1).val

/-- A matrix below a leading axis of one position that holds the extended reals `f`. -/
def IsV2 {m n : ℕ} (V : (⟨3, ![1, m, n]⟩ : Shape).Idx → EReal) (f : ℕ → ℕ → EReal) : Prop :=
  ∀ i : (⟨3, ![1, m, n]⟩ : Shape).Idx, V i = f (i 1).val (i 2).val

theorem IsV2.congr {m n : ℕ} {V : (⟨3, ![1, m, n]⟩ : Shape).Idx → EReal} {f g : ℕ → ℕ → EReal} (h : IsV2 V f)
    (e : ∀ i < m, ∀ j < n, f i j = g i j) : IsV2 V g := fun i => by
  rw [h i, e _ (i 1).isLt _ (i 2).isLt]

theorem IsV2.drop {m n : ℕ} {V : (⟨3, ![1, m, n]⟩ : Shape).Idx → EReal} {f : ℕ → ℕ → EReal} (h : IsV2 V f)
    (hc : (⟨3, ![1, m, n]⟩ : Shape).ShapeCasts ⟨2, ![m, n]⟩) : IsE2 (shapeCast ⟨2, ![m, n]⟩ V hc) f := fun i => by
  rw [shapeCast_dropUnit_apply, h]; rfl

theorem IsR2.ext {m n : ℕ} {V : (⟨2, ![m, n]⟩ : Shape).Idx → EReal} {f : ℕ → ℕ → ℝ} (h : IsR2 V f) : IsE2 V (fun i j => ((f i j : ℝ) : EReal)) := h

theorem IsE2.add {m n : ℕ} {V W : FVec Ideal ⟨2, ![m, n]⟩ .f32} {f g : ℕ → ℕ → EReal} (h : IsE2 V f) (h' : IsE2 W g) :
    IsE2 (addf V W) (fun i j => f i j + g i j) := fun i => by
  rw [addf_apply, h, h']

theorem IsE2.mul {m n : ℕ} {V W : FVec Ideal ⟨2, ![m, n]⟩ .f32} {f g : ℕ → ℕ → EReal} (h : IsE2 V f) (h' : IsE2 W g) :
    IsE2 (mulf V W) (fun i j => f i j * g i j) := fun i => by
  rw [mulf_apply, h, h']

/-- A product with the second matrix transposed. -/
theorem IsE2.mmT {M K N : ℕ} {V : FVec Ideal ⟨2, ![M, K]⟩ .f32} {W : FVec Ideal ⟨2, ![N, K]⟩ .f32} {f g : ℕ → ℕ → EReal}
    (h : IsE2 V f) (h' : IsE2 W g) :
    IsE2 (matmul (DotDims.transposedRhs M K N) none V W (constant ⟨2, ![M, N]⟩ .f32 0x00000000#32)) (fun i j => ∑ k : Fin K, f i k.val * g j k.val) := fun i => by
  rw [eq_ix2 i]
  refine (Ideal.matmul_transposedRhs_apply none V W _ _ _).trans ?_
  rw [constant_apply, Ideal.ofBits_zero_f32, zero_add]
  refine sum_congr rfl fun k _ => ?_
  rw [h, h']; rfl

end Cert.Scan
end
-- ==== Proof.Ker.lean ====
module

public import proofs.«01_k».proof.Proof.Ext

@[expose] public section

noncomputable section

/-! What one step of the kernel stores, when its operands but the state hold real numbers. -/

namespace Cert.KernelIdeal.Blk

open Cert.KernelIdeal Cert.KernelIdeal.Gen Idealize.ShloMosaic Idealize.ShloMosaic.TcCoe Idealize.SL.Sem Cert.Scan Finset
open Idealize.ShloMosaic.ValueIdx

/-- One column of a matrix of real numbers, repeated along the rows. -/
theorem col_isR {V : FVec Ideal S256x16 .f32} {f : ℕ → ℕ → ℝ} (h : IsR2 V f) (k : ℕ) :
    IsR2 (broadcastTo S256x64 (extractStridedSlice S256x1 ![0, hd k] V (slC k)) broadcasts_S256x1_S256x64 : FVec Ideal S256x64 .f32)
      (fun i _ => f i (hd k)) := fun i => by
  refine (broadcastTo_apply _ _ i (ix2 ⟨(i 0).val, idx2_lt0 i⟩ ⟨0, Nat.one_pos⟩) ?_).trans ?_
  · intro a; match a with | ⟨0, _⟩ => rfl | ⟨1, _⟩ => rfl
  · refine (extractStridedSlice_apply _ V (slC k) _ (ix2 ⟨(i 0).val, idx2_lt0 i⟩ ⟨hd k, Nat.mod_lt _ (by decide)⟩) ?_).trans (h _)
    intro a; match a with | ⟨0, _⟩ => exact (Nat.zero_add _).symm | ⟨1, _⟩ => rfl

/-- One entry of a column of real numbers, repeated over a matrix. -/
theorem ent_isR {V : FVec Ideal S16x1 .f32} {f : ℕ → ℕ → ℝ} (h : IsR2 V f) (k : ℕ) :
    IsR2 (broadcastTo S64x64 (extractStridedSlice S1x1 ![hd k, 0] V (slE k)) broadcasts_S1x1_S64x64 : FVec Ideal S64x64 .f32)
      (fun _ _ => f (hd k) 0) := fun i => by
  refine (broadcastTo_apply _ _ i (ix2 ⟨0, Nat.one_pos⟩ ⟨0, Nat.one_pos⟩) ?_).trans ?_
  · intro a; match a with | ⟨0, _⟩ => rfl | ⟨1, _⟩ => rfl
  · refine (extractStridedSlice_apply _ V (slE k) _ (ix2 ⟨hd k, Nat.mod_lt _ (by decide)⟩ ⟨0, Nat.one_pos⟩) ?_).trans (h _)
    intro a; match a with | ⟨0, _⟩ => rfl | ⟨1, _⟩ => rfl

/-- The mask keeps the entries on and below the diagonal. -/
theorem mask_isR {V : FVec Ideal S256x256 .f32} {f : ℕ → ℕ → ℝ} (h : IsR2 V f) :
    IsR2 (select k0_pay4 V (broadcast S256x256 (Scalar.ofBits .f32 0x00000000#32)) : FVec Ideal S256x256 .f32)
      (fun j s => if s ≤ j then f j s else 0) := fun i => by
  have hi0 := idx2_lt0 i
  have hi1 := idx2_lt1 i
  have hm : k0_pay4 i = BitVec.ofBool (decide ((i 1).val ≤ (i 0).val)) := by
    show IntOp.cmpi .sge (iota .tc S256x256 32 [0] _ i) (iota .tc S256x256 32 [1] _ i) = _
    rw [iota_single_apply, iota_single_apply]
    exact WordCmp.cmpi_sge_ofNat (lt_trans hi0 (by decide)) (lt_trans hi1 (by decide))
  show Scalar.select (k0_pay4 i) (V i) (Ideal.ofBits .f32 0x00000000#32) = _
  rw [hm, WordCmp.select_decide, h, Ideal.ofBits_zero_f32]
  by_cases hc : (i 1).val ≤ (i 0).val <;> simp [hc]

/-- The product contracted over the rows of both matrices. -/
theorem mmL_isR {V W : FVec Ideal S256x64 .f32} {f g : ℕ → ℕ → ℝ} (h : IsR2 V f) (h' : IsR2 W g) :
    IsR2 (matmul dot_S256x64_S256x64_S64x64_0_0_1_1_n_n none V W (constant S64x64 .f32 0x00000000#32) : FVec Ideal S64x64 .f32)
      (fun p n => ∑ s ∈ range 256, f s p * g s n) := fun i => by
  show FloatOps.matmul _ _ _ _ _ i = _
  rw [Ideal.matmul_apply, constant_apply, Ideal.ofBits_zero_f32, zero_add, ← coe_sum_fin 256,
    ← (contrEquiv1 dot_S256x64_S256x64_S64x64_0_0_1_1_n_n 256 rfl rfl).symm.sum_comp]
  refine sum_congr rfl fun k _ => ?_
  have e := contrEquiv1_symm_val dot_S256x64_S256x64_S64x64_0_0_1_1_n_n 256 rfl rfl k
  rw [h, h', ← EReal.coe_mul]
  rw [show (dot_S256x64_S256x64_S64x64_0_0_1_1_n_n.lhsIdx i ((contrEquiv1 dot_S256x64_S256x64_S64x64_0_0_1_1_n_n 256 rfl rfl).symm k) 0).val = k.val from
      (dot_S256x64_S256x64_S64x64_0_0_1_1_n_n.lhsIdx_val_of_single rfl i _).trans e,
    show (dot_S256x64_S256x64_S64x64_0_0_1_1_n_n.rhsIdx i ((contrEquiv1 dot_S256x64_S256x64_S64x64_0_0_1_1_n_n 256 rfl rfl).symm k) 0).val = k.val from
      (dot_S256x64_S256x64_S64x64_0_0_1_1_n_n.rhsIdx_val_of_single rfl i _).trans e]
  rfl

section Step
variable {k : ℕ} {x : Vec Ideal S1x256x64 .f32} {a : Vec Ideal S1x256x16 .f32} {b c : Vec Ideal S1x256x64 .f32} {r : Vec Ideal S1x64x64 .f32}
  {fx fa fb fc : ℕ → ℕ → ℝ} {fr : ℕ → ℕ → EReal}

/-- The prefix sums, rows first. -/
theorem csT_isR (ha : IsU2 a fa) : IsR2 (k0_pay6 a : FVec Ideal S256x16 .f32) (fun j h => ∑ u ∈ range (j + 1), fa u h) :=
  (csr_isR a fa ha).transpose transposes_S16x256_p1_0_S256x16

/-- The scaled second factor of a step. -/
theorem bsc_isR (k : ℕ) (ha : IsU2 a fa) (hb : IsU2 b fb) :
    IsR2 (bsc k a b) (fun s n => fb s n * Real.exp (-∑ u ∈ range (s + 1), fa u (hd k))) := by
  have h8 : IsR2 (k0_pay8 (k0_pay6 a) (Scalar.ofBits .f32 0x00000000#32) : FVec Ideal S256x16 .f32)
      (fun j h => Real.exp (-∑ u ∈ range (j + 1), fa u h)) := fun i => by
    show Ideal.exp (Ideal.ofBits .f32 0x00000000#32 - k0_pay6 a i) = _
    rw [csT_isR ha i, Ideal.ofBits_zero_f32, zero_sub, ← EReal.coe_neg]; rfl
  exact (hb.drop _).mul (col_isR h8 k)

/-- What a step stores into the result block. -/
theorem yPay_isU (k : ℕ) (hx : IsU2 x fx) (ha : IsU2 a fa) (hb : IsU2 b fb) (hc : IsU2 c fc) (hr : IsV2 r fr) :
    IsV2 (yPay k x a b c r) (fun j p => ((Real.exp (∑ u ∈ range (j + 1), fa u (hd k)) : ℝ) : EReal) *
      (((∑ s ∈ range 256, (if s ≤ j then ∑ n ∈ range 64, fc j n * (fb s n * Real.exp (-∑ u ∈ range (s + 1), fa u (hd k))) else 0) * fx s p : ℝ) : EReal)
        + ∑ n : Fin 64, ((fc j n.val : ℝ) : EReal) * fr p n.val)) := by
  have h := (col_isR (csT_isR ha).exp k).ext.mul ((((mask_isR ((hc.drop shapeCasts_S1x256x64_S256x64).mmT (bsc_isR k ha hb))).mm (hx.drop shapeCasts_S1x256x64_S256x64))).ext.add
    ((hc.drop shapeCasts_S1x256x64_S256x64).ext.mmT (hr.drop shapeCasts_S1x64x64_S64x64)))
  intro i
  refine (shapeCast_addUnit_apply _ _ shapeCasts_S256x64_S1x256x64 i).trans ?_
  exact h _

/-- What a step stores into the head's state. -/
theorem sPay_isU (k : ℕ) (hx : IsU2 x fx) (ha : IsU2 a fa) (hb : IsU2 b fb) (hr : IsV2 r fr) :
    IsV2 (sPay k x a b r) (fun p n => ((Real.exp (∑ u ∈ range 256, fa u (hd k)) : ℝ) : EReal) *
      (fr p n + ((∑ s ∈ range 256, fx s p * (fb s n * Real.exp (-∑ u ∈ range (s + 1), fa u (hd k))) : ℝ) : EReal))) := by
  have h9 : IsR2 (k0_pay9 (k0_pay5 a) : FVec Ideal S16x1 .f32) (fun h _ => Real.exp (∑ u ∈ range 256, fa u h)) := fun i => by
    show Ideal.exp (extractStridedSlice S16x1 ![0, 255] (k0_pay5 a) _ i) = _
    rw [extractStridedSlice_apply (j := i) (k := ix2 ⟨(i 0).val, idx2_lt0 i⟩ ⟨255, by decide⟩), csr_isR a fa ha]
    · rfl
    · intro b; match b with | ⟨0, _⟩ => exact (Nat.zero_add _).symm | ⟨1, _⟩ => exact (show 255 = 255 + (i 1).val by have := idx2_lt1 i; omega)
  have h := (ent_isR h9 k).ext.mul ((hr.drop shapeCasts_S1x64x64_S64x64).add (mmL_isR (hx.drop shapeCasts_S1x256x64_S256x64) (bsc_isR k ha hb)).ext)
  intro i
  refine (shapeCast_addUnit_apply _ _ shapeCasts_S64x64_S1x64x64 i).trans ?_
  exact h _

end Step
end Cert.KernelIdeal.Blk
end
-- ==== Proof.Pt.lean ====
module

public import proofs.«01_k».proof.Proof.Ker

@[expose] public section

noncomputable section

/-! One grid point of the kernel, when its blocks but the initial states hold real numbers: the state buffer and the result block it leaves. -/

namespace Cert.KernelIdeal.Blk

open Cert.KernelIdeal Cert.KernelIdeal.Gen Idealize.ShloMosaic Idealize.ShloMosaic.TcCoe Idealize.SL.Sem Cert.Scan Finset
open Idealize.ShloMosaic.ValueIdx

/-- One head's column of the decays. -/
abbrev aH (g : ℕ → ℕ → ℝ) (h t : ℕ) : ℝ := g t h
/-- One head's 64 columns of an operand. -/
abbrev wH (g : ℕ → ℕ → ℝ) (h t p : ℕ) : ℝ := g t (64 * h + p)

section Entries
variable (ga gx gb gc : ℕ → ℕ → ℝ) (g0 : ℕ → ℕ → ℕ → EReal)

/-- The state of head `h` after `t` rows. -/
def stH (t h p n : ℕ) : EReal := stateE (aH ga h) (wH gx h) (wH gb h) (g0 h) t p n
/-- The result of head `h` at row `t`. -/
def outH (t h p : ℕ) : EReal := outE (aH ga h) (wH gx h) (wH gb h) (wH gc h) (g0 h) t p
end Entries

/-- A state buffer that holds the extended reals `f`. -/
def IsS3 (V : S16x64x64.Idx → EReal) (f : ℕ → ℕ → ℕ → EReal) : Prop :=
  ∀ i : S16x64x64.Idx, V i = f (i 0).val (i 1).val (i 2).val

/-- How many of the first `k` steps are head `h`'s. -/
abbrev cnt (k h : ℕ) : ℕ := (k + 15 - h) / 16

section Point
variable {ga gx gb gc : ℕ → ℕ → ℝ} {g0 : ℕ → ℕ → ℕ → EReal} {T : ℕ}
variable {X B C : ℕ → Vec Ideal S1x256x64 .f32} {A : ℕ → Vec Ideal S1x256x16 .f32}
  {ld : ℕ → List (View.Piece (Elt Ideal) S16x64x64 .f32) → Vec Ideal S1x64x64 .f32}
  {L0 : List (View.Piece (Elt Ideal) S16x64x64 .f32)} {Cv : ℕ → ℕ → Prop}

/-- The loads of step `k` from a block that holds rows `T …` of an operand. -/
abbrev RdX (X : ℕ → Vec Ideal S1x256x64 .f32) (g : ℕ → ℕ → ℝ) (T : ℕ) : Prop :=
  ∀ k, IsU2 (X k) (fun j p => g (T + 256 * sub k + j) (64 * hd k + p))
/-- The loads of step `k` from the block of decays. -/
abbrev RdA (A : ℕ → Vec Ideal S1x256x16 .f32) (g : ℕ → ℕ → ℝ) (T : ℕ) : Prop :=
  ∀ k, IsU2 (A k) (fun j h => g (T + 256 * sub k + j) h)

/-- A step carries the head's state over 256 rows. -/
theorem step_st (hX : RdX X gx T) (hA : RdA A ga T) (hB : RdX B gb T) (k : ℕ) {r : Vec Ideal S1x64x64 .f32}
    (hr : IsV2 r (stH ga gx gb g0 (T + 256 * sub k) (hd k))) :
    IsV2 (sPay k (X k) (A k) (B k) r) (stH ga gx gb g0 (T + 256 * sub k + 256) (hd k)) :=
  (sPay_isU k (hX k) (hA k) (hB k) hr).congr fun p _ n _ =>
    stateE_step (aH ga (hd k)) (wH gx (hd k)) (wH gb (hd k)) (g0 (hd k)) (T + 256 * sub k) 255 p n

/-- A step's stored rows are the head's results. -/
theorem step_y (hX : RdX X gx T) (hA : RdA A ga T) (hB : RdX B gb T) (hC : RdX C gc T) (k : ℕ) {r : Vec Ideal S1x64x64 .f32}
    (hr : IsV2 r (stH ga gx gb g0 (T + 256 * sub k) (hd k))) :
    IsV2 (yPay k (X k) (A k) (B k) (C k) r) (fun j p => outH ga gx gb gc g0 (T + 256 * sub k + j) (hd k) p) :=
  (yPay_isU k (hX k) (hA k) (hB k) (hC k) hr).congr fun j hj p _ => by
    simp only [ite_mul, zero_mul]
    rw [sum_cut _ hj]
    exact outE_step (aH ga (hd k)) (wH gx (hd k)) (wH gb (hd k)) (wH gc (hd k)) (g0 (hd k)) (T + 256 * sub k) j p

/-- The state buffer after `k` steps, at the heads whose entries are known. -/
abbrev Known (ga gx gb : ℕ → ℕ → ℝ) (g0 : ℕ → ℕ → ℕ → EReal) (T : ℕ) (Cv : ℕ → ℕ → Prop) (k : ℕ) (L : List (View.Piece (Elt Ideal) S16x64x64 .f32)) : Prop :=
  ∀ i : S16x64x64.Idx, Cv k (i 0).val → View.canon L i = stH ga gx gb g0 (T + 256 * cnt k (i 0).val) (i 0).val (i 1).val (i 2).val

/-- By induction over the steps: the state buffer holds every known head's state. -/
theorem known_stL (hX : RdX X gx T) (hA : RdA A ga T) (hB : RdX B gb T)
    (hCv : ∀ k h, h < 16 → Cv (k + 1) h → h ≠ hd k → Cv k h)
    (hld : ∀ k < 64, ∀ L, Known ga gx gb g0 T Cv k L → IsV2 (ld k L) (stH ga gx gb g0 (T + 256 * sub k) (hd k)))
    (h0 : Known ga gx gb g0 T Cv 0 L0) : ∀ k ≤ 64, Known ga gx gb g0 T Cv k (stL X B A ld L0 k)
  | 0, _ => h0
  | k + 1, hk => fun i hi => by
    have ih := known_stL hX hA hB hCv hld h0 k (by omega)
    have hs := step_st hX hA hB k (hld k (by omega) _ ih)
    have b0 : (i 0).val < 16 := (i 0).isLt
    show View.canon (⟨rS k, sPay k (X k) (A k) (B k) (ld k (stL X B A ld L0 k))⟩ :: stL X B A ld L0 k) i = _
    by_cases he : (i 0).val = hd k
    · have hix : i = (rS k).emb (ix3 ⟨0, Nat.one_pos⟩ ⟨(i 1).val, (i 1).isLt⟩ ⟨(i 2).val, (i 2).isLt⟩) := by
        funext a; apply Fin.ext
        match a with
        | ⟨0, _⟩ => exact he
        | ⟨1, _⟩ => show (i 1).val = 0 + 1 * (i 1).val; omega
        | ⟨2, _⟩ => show (i 2).val = 0 + 1 * (i 2).val; omega
      refine (congrArg (View.canon _) hix).trans ?_
      refine (View.canon_cons_emb (rS k) _ _ _).trans ((hs _).trans ?_)
      show stH ga gx gb g0 (T + 256 * sub k + 256) (hd k) (i 1).val (i 2).val = _
      rw [he, show T + 256 * cnt (k + 1) (hd k) = T + 256 * sub k + 256 by simp only [cnt, hd, sub]; omega]
    · rw [View.canon_cons_of_not_mem, ih i (hCv k _ b0 hi he)]
      · rw [show cnt (k + 1) (i 0).val = cnt k (i 0).val by simp only [cnt, hd] at he ⊢; omega]
      · rw [Rect.mem_set_unit]
        intro h
        have h0 : hd k ≤ (i 0).val ∧ (i 0).val < hd k + 1 := h 0
        omega

/-- By induction over the steps: the result block holds the results of the steps made. -/
theorem known_yL (hX : RdX X gx T) (hA : RdA A ga T) (hB : RdX B gb T) (hC : RdX C gc T)
    (hCv : ∀ k h, h < 16 → Cv (k + 1) h → h ≠ hd k → Cv k h)
    (hld : ∀ k < 64, ∀ L, Known ga gx gb g0 T Cv k L → IsV2 (ld k L) (stH ga gx gb g0 (T + 256 * sub k) (hd k)))
    (h0 : Known ga gx gb g0 T Cv 0 L0) : ∀ k ≤ 64, ∀ i : S1x1024x1024.Idx, 16 * ((i 1).val / 256) + (i 2).val / 64 < k →
      View.canon (yL X B C A ld L0 k) i = outH ga gx gb gc g0 (T + (i 1).val) ((i 2).val / 64) ((i 2).val % 64)
  | 0, _ => fun i h => absurd h (Nat.not_lt_zero _)
  | k + 1, hk => fun i hi => by
    have ih := known_yL hX hA hB hC hCv hld h0 k (by omega) i
    have hs := step_y hX hA hB hC k (hld k (by omega) _ (known_stL hX hA hB hCv hld h0 k (by omega)))
    have b0 : (i 0).val < 1 := (i 0).isLt
    have b1 : (i 1).val < 1024 := (i 1).isLt
    have b2 : (i 2).val < 1024 := (i 2).isLt
    show View.canon (⟨rX k, yPay k (X k) (A k) (B k) (C k) (ld k (stL X B A ld L0 k))⟩ :: yL X B C A ld L0 k) i = _
    by_cases he : 16 * ((i 1).val / 256) + (i 2).val / 64 = k
    · have e1 : sub k = (i 1).val / 256 := by simp only [sub]; omega
      have e2 : hd k = (i 2).val / 64 := by simp only [hd]; omega
      have hix : i = (rX k).emb (ix3 ⟨0, Nat.one_pos⟩ ⟨(i 1).val % 256, Nat.mod_lt _ (by decide)⟩ ⟨(i 2).val % 64, Nat.mod_lt _ (by decide)⟩) := by
        funext a; apply Fin.ext
        match a with
        | ⟨0, _⟩ => show (i 0).val = 0 + 1 * 0; omega
        | ⟨1, _⟩ => show (i 1).val = 256 * sub k + 1 * ((i 1).val % 256); omega
        | ⟨2, _⟩ => show (i 2).val = 64 * hd k + 1 * ((i 2).val % 64); omega
      refine (congrArg (View.canon _) hix).trans ?_
      refine (View.canon_cons_emb (rX k) _ _ _).trans ((hs _).trans ?_)
      show outH ga gx gb gc g0 (T + 256 * sub k + (i 1).val % 256) (hd k) ((i 2).val % 64) = _
      rw [e2, show T + 256 * sub k + (i 1).val % 256 = T + (i 1).val by omega]
    · rw [View.canon_cons_of_not_mem, ih (by omega)]
      rw [Rect.mem_set_unit]
      intro h
      have h1 : 256 * sub k ≤ (i 1).val ∧ (i 1).val < 256 * sub k + 256 := h 1
      have h2 : 64 * hd k ≤ (i 2).val ∧ (i 2).val < 64 * hd k + 64 := h 2
      simp only [sub, hd] at h1 h2
      omega

end Point
end Cert.KernelIdeal.Blk
end
-- ==== Proof.Grid.lean ====
module

public import proofs.«01_k».proof.Proof.Pt

@[expose] public section

noncomputable section

/-! The kernel's grid points, one after another: what each leaves in the state buffer and writes back. -/

namespace Cert.KernelIdeal.Blk

open Cert.KernelIdeal Cert.KernelIdeal.Gen Idealize.ShloMosaic Idealize.ShloMosaic.TcCoe Idealize.SL.Sem Cert.Scan Finset
open Idealize.ShloMosaic.ValueIdx

section Point
variable (c : Dev nD) (i : grid0.Coords) (arg2 : Memref sig .tc .vmem S1x1024x1024 .f32) (harg2 : arg2.IsWhole) (arg3 : Memref sig .tc .vmem S1x1024x16 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x16x64x64 .f32) (harg6 : arg6.IsWhole) (arg7 : Memref sig .tc .vmem S1x1024x1024 .f32) (harg7 : arg7.IsWhole) (arg8 : Memref sig .tc .vmem S16x64x64 .f32) (harg8 : arg8.IsWhole)
    (x0 : Vec Ideal S1x1024x1024 .f32) (x1 : Vec Ideal S1x1024x16 .f32) (x2 : Vec Ideal S1x1024x1024 .f32) (x3 : Vec Ideal S1x1024x1024 .f32) (x4 : Vec Ideal S1x16x64x64 .f32) (xs0 : Vec Ideal S16x64x64 .f32)
variable {ga gx gb gc : ℕ → ℕ → ℝ} {g0 : ℕ → ℕ → ℕ → EReal} {T : ℕ}

/-- A step's load of rows of a block that holds real numbers. -/
theorem rd_ldX {arg : Memref sig .tc .vmem S1x1024x1024 .f32} (harg : arg.IsWhole) {x : Vec Ideal S1x1024x1024 .f32} {g : ℕ → ℕ → ℝ}
    (h : IsU2 x (fun r col => g (T + r) col)) : RdX (ldX arg harg x) g T := fun k i => by
  show arg.view.read (Elt Ideal) (harg.unread x) ((rX k).toLoadRect.idx i) = _
  rw [harg.read_unread, h]
  show ((g (T + (256 * sub k + 1 * (i 1).val)) (64 * hd k + 1 * (i 2).val) : ℝ) : EReal) = _
  rw [Nat.one_mul, Nat.one_mul, ← Nat.add_assoc]

/-- A step's load of the decays. -/
theorem rd_ldA {arg : Memref sig .tc .vmem S1x1024x16 .f32} (harg : arg.IsWhole) {x : Vec Ideal S1x1024x16 .f32} {g : ℕ → ℕ → ℝ}
    (h : IsU2 x (fun r col => g (T + r) col)) : RdA (ldA arg harg x) g T := fun k i => by
  show arg.view.read (Elt Ideal) (harg.unread x) ((rA k).toLoadRect.idx i) = _
  rw [harg.read_unread, h]
  show ((g (T + (256 * sub k + 1 * (i 1).val)) (0 + 1 * (i 2).val) : ℝ) : EReal) = _
  rw [Nat.one_mul, Nat.one_mul, Nat.zero_add, ← Nat.add_assoc]

/-- A load of the head's state from stores that hold it. -/
theorem ld_known {Cv : ℕ → ℕ → Prop} {k : ℕ} (hk : k < 64) {L : List (View.Piece (Elt Ideal) S16x64x64 .f32)}
    (h : Known ga gx gb g0 T Cv k L) (hc : Cv k (hd k)) :
    IsV2 (arg8.view.readCov L (rS k).toLoadRect : Vec Ideal S1x64x64 .f32) (stH ga gx gb g0 (T + 256 * sub k) (hd k)) := fun i => by
  have b0 : (i 0).val < 1 := (i 0).isLt
  have e0 : (((rS k).toLoadRect.idx i) 0).val = hd k := by
    show hd k + 1 * (i 0).val = hd k
    omega
  rw [View.readCov_eq_canon']
  refine (h _ (by rw [e0]; exact hc)).trans ?_
  rw [e0]
  show stH ga gx gb g0 (T + 256 * cnt k (hd k)) (hd k) (0 + 1 * (i 1).val) (0 + 1 * (i 2).val) = _
  rw [show cnt k (hd k) = sub k by simp only [cnt, hd, sub]; omega, Nat.one_mul, Nat.one_mul, Nat.zero_add, Nat.zero_add]

/-- Before the first row the state is the initial one. -/
theorem stH_zero (h p n : ℕ) : stH ga gx gb g0 0 h p n = g0 h p n := by
  exact stateE_zero _ _ _ _ p n

/-- The state buffer's first fill is the block of initial states without its leading axis. -/
theorem pay3_apply (v : Vec Ideal S1x16x64x64 .f32) (i : S16x64x64.Idx) :
    (k0_pay3 v : FVec Ideal S16x64x64 .f32) i = v (Fin.cons ⟨0, Nat.one_pos⟩ i) := by
  unfold k0_pay3
  rw [shapeCast_apply _ _ i i rfl]
  exact shapeCast_dropUnit_apply _ v shapeCasts_S1x16x64x64_S16x64x64 i

/-- What a batch's first point leaves. -/
theorem point_A (hT : T = 0) (hc0 : cond0_0 i) (hx : IsU2 x0 (fun r col => gx (T + r) col)) (ha : IsU2 x1 (fun r col => ga (T + r) col))
    (hb : IsU2 x2 (fun r col => gb (T + r) col)) (hc : IsU2 x3 (fun r col => gc (T + r) col))
    (h4 : ∀ i : S1x16x64x64.Idx, x4 i = g0 (i 1).val (i 2).val (i 3).val) :
    IsV2 (out0_A_5 c i arg2 harg2 arg3 harg3 arg4 harg4 arg5 harg5 arg6 harg6 arg7 harg7 arg8 harg8 hc0 x0 x1 x2 x3 x4)
        (fun r col => outH ga gx gb gc g0 (T + r) (col / 64) (col % 64))
      ∧ IsS3 (sout0_A_0 c i arg2 harg2 arg3 harg3 arg4 harg4 arg5 harg5 arg6 harg6 arg7 harg7 arg8 harg8 hc0 x0 x1 x2 x3 x4)
        (stH ga gx gb g0 (T + 1024)) := by
  subst hT
  have hX := rd_ldX (T := 0) harg2 hx
  have hA := rd_ldA (T := 0) harg3 ha
  have hB := rd_ldX (T := 0) harg4 hb
  have hC := rd_ldX (T := 0) harg5 hc
  have h0 : Known ga gx gb g0 0 (fun _ _ => True) 0 (L0A (F := Ideal) arg6 harg6 x4) := fun i _ => by
    rw [View.canon_unit_zero (by funext a; fin_cases a <;> rfl)]
    have b0 : (i 0).val < 16 := (i 0).isLt
    rw [show 0 + 256 * cnt 0 (i 0).val = 0 by simp only [cnt]; omega, stH_zero]
    rw [pay3_apply]
    rw [View.readAt_apply, harg6.read_unread, h4]
    show g0 (0 + 1 * (i 0).val) (0 + 1 * (i 1).val) (0 + 1 * (i 2).val) = _
    simp only [Nat.one_mul, Nat.zero_add]
  have hld : ∀ k < 64, ∀ L, Known ga gx gb g0 0 (fun _ _ => True) k L → IsV2 (ldSA arg8 k L) (stH ga gx gb g0 (0 + 256 * sub k) (hd k)) :=
    fun k hk L h => ld_known arg8 hk h trivial
  constructor
  · intro y
    have b1 : (y 1).val < 1024 := (y 1).isLt
    have b2 : (y 2).val < 1024 := (y 2).isLt
    unfold out0_A_5
    rw [View.read_writes_junk_eq_canon, pieces_A_y]
    exact known_yL hX hA hB hC (fun _ _ _ _ _ => trivial) hld h0 64 le_rfl y (by omega)
  · intro y
    have b0 : (y 0).val < 16 := (y 0).isLt
    unfold sout0_A_0
    rw [View.read_writes_junk_eq_canon, pieces_A_st]
    refine (known_stL hX hA hB (fun _ _ _ _ _ => trivial) hld h0 64 le_rfl y trivial).trans ?_
    rw [show 256 * cnt 64 (y 0).val = 1024 by simp only [cnt]; omega]

/-- What a later point of a batch leaves, over the state the point before left. -/
theorem point_B (hc0 : ¬cond0_0 i) (hx : IsU2 x0 (fun r col => gx (T + r) col)) (ha : IsU2 x1 (fun r col => ga (T + r) col))
    (hb : IsU2 x2 (fun r col => gb (T + r) col)) (hc : IsU2 x3 (fun r col => gc (T + r) col))
    (hs : IsS3 xs0 (stH ga gx gb g0 T)) :
    IsV2 (out0_B_5 c i arg2 harg2 arg3 harg3 arg4 harg4 arg5 harg5 arg6 harg6 arg7 harg7 arg8 harg8 hc0 x0 x1 x2 x3 x4 xs0)
        (fun r col => outH ga gx gb gc g0 (T + r) (col / 64) (col % 64))
      ∧ IsS3 (sout0_B_0 c i arg2 harg2 arg3 harg3 arg4 harg4 arg5 harg5 arg6 harg6 arg7 harg7 arg8 harg8 hc0 x0 x1 x2 x3 x4 xs0)
        (stH ga gx gb g0 (T + 1024)) := by
  have hX := rd_ldX harg2 hx
  have hA := rd_ldA harg3 ha
  have hB := rd_ldX harg4 hb
  have hC := rd_ldX harg5 hc
  have hCv : ∀ k h, h < 16 → h < k + 1 → h ≠ hd k → h < k := fun k h h16 hk hne => by
    simp only [hd] at hne
    omega
  have h0 : Known ga gx gb g0 T (fun k h => h < k) 0 [] := fun i h => absurd h (Nat.not_lt_zero _)
  have hld : ∀ k < 64, ∀ L, Known ga gx gb g0 T (fun k h => h < k) k L →
      IsV2 (ldSB arg8 harg8 xs0 k L) (stH ga gx gb g0 (T + 256 * sub k) (hd k)) := fun k hk L h => by
    by_cases h16 : 16 ≤ k
    · have e : ldSB arg8 harg8 xs0 k L = arg8.view.readCov L (rS k).toLoadRect := by
        show cond (Nat.ble 16 k) _ _ = _
        rw [Nat.ble_eq_true_of_le h16]; rfl
      rw [e]
      exact ld_known arg8 hk h (by simp only [hd]; omega)
    · have e : ldSB arg8 harg8 xs0 k L = View.readAt (Elt Ideal) arg8.view (rS k).toLoadRect (harg8.unread xs0) := by
        show cond (Nat.ble 16 k) _ _ = _
        rw [Bool.eq_false_iff.mpr fun h => h16 (Nat.le_of_ble_eq_true h)]; rfl
      rw [e]
      intro j
      have b0 : (j 0).val < 1 := (j 0).isLt
      show arg8.view.read (Elt Ideal) (harg8.unread xs0) ((rS k).toLoadRect.idx j) = _
      rw [harg8.read_unread, hs]
      show stH ga gx gb g0 T (hd k + 1 * (j 0).val) (0 + 1 * (j 1).val) (0 + 1 * (j 2).val) = _
      rw [show T + 256 * sub k = T by simp only [sub]; omega, show hd k + 1 * (j 0).val = hd k by omega, Nat.one_mul, Nat.one_mul, Nat.zero_add, Nat.zero_add]
  constructor
  · intro y
    have b1 : (y 1).val < 1024 := (y 1).isLt
    have b2 : (y 2).val < 1024 := (y 2).isLt
    unfold out0_B_5
    rw [View.read_writes_junk_eq_canon, pieces_B_y]
    exact known_yL hX hA hB hC hCv hld h0 64 le_rfl y (by omega)
  · intro y
    have b0 : (y 0).val < 16 := (y 0).isLt
    unfold sout0_B_0
    rw [View.read_writes_junk_eq_canon, pieces_B_st]
    refine (known_stL hX hA hB hCv hld h0 64 le_rfl y (show (y 0).val < 64 by omega)).trans ?_
    rw [show 256 * cnt 64 (y 0).val = 1024 by simp only [cnt]; omega]

end Point
end Cert.KernelIdeal.Blk
end
-- ==== Proof.Val.lean ====
module

public import proofs.«01_k».proof.Proof.Grid
public import Idealize.ShloMosaic.Lib.Claim

@[expose] public section

noncomputable section

/-! The kernel's result array, when its arguments but the initial states hold real numbers. -/

namespace Cert.KernelIdeal.Blk

open Cert.KernelIdeal Cert.KernelIdeal.Gen Idealize.ShloMosaic Idealize.ShloMosaic.TcCoe Idealize.SL.Sem Cert.Scan Finset
open Idealize.ShloMosaic.ValueIdx

/-- An operand's row with its heads side by side: column `64 h + p` is entry `p` of head `h`. -/
def fl (d : ℕ → ℕ → ℕ → ℕ → ℝ) (b t col : ℕ) : ℝ := d b t (col / 64) (col % 64)

/-- Reshaping the heads of an array of real numbers into columns. -/
theorem flat_apply {v : FVec Ideal S4x4096x16x64 .f32} {d : ℕ → ℕ → ℕ → ℕ → ℝ}
    (h : ∀ i : S4x4096x16x64.Idx, v i = ((d (i 0).val (i 1).val (i 2).val (i 3).val : ℝ) : EReal)) (i : S4x4096x1024.Idx) :
    shapeCast S4x4096x1024 v shapeCasts_S4x4096x16x64_S4x4096x1024 i = ((fl d (i 0).val (i 1).val (i 2).val : ℝ) : EReal) := by
  have b2 : (i 2).val < 1024 := (i 2).isLt
  refine (shapeCast_apply v _ i (ix4 ⟨(i 0).val, (i 0).isLt⟩ ⟨(i 1).val, (i 1).isLt⟩ ⟨(i 2).val / 64, by omega⟩ ⟨(i 2).val % 64, Nat.mod_lt _ (by decide)⟩) ?_).trans (h _)
  rw [Shape.rowMajor_val_four, Shape.rowMajor_val_three]
  show (((i 0).val * 4096 + (i 1).val) * 16 + (i 2).val / 64) * 64 + (i 2).val % 64 = ((i 0).val * 4096 + (i 1).val) * 1024 + (i 2).val
  omega

/-- Reshaping an array of columns back into heads. -/
theorem unflat_apply {v : FVec Ideal S4x4096x1024 .f32} {f : ℕ → ℕ → ℕ → EReal}
    (h : ∀ i : S4x4096x1024.Idx, v i = f (i 0).val (i 1).val (i 2).val) (i : S4x4096x16x64.Idx) :
    shapeCast S4x4096x16x64 v shapeCasts_S4x4096x1024_S4x4096x16x64 i = f (i 0).val (i 1).val (64 * (i 2).val + (i 3).val) := by
  have b2 : (i 2).val < 16 := (i 2).isLt
  have b3 : (i 3).val < 64 := (i 3).isLt
  refine (shapeCast_apply v _ i (ix3 ⟨(i 0).val, (i 0).isLt⟩ ⟨(i 1).val, (i 1).isLt⟩ ⟨64 * (i 2).val + (i 3).val, by omega⟩) ?_).trans (h _)
  rw [Shape.rowMajor_val_four, Shape.rowMajor_val_three]
  show ((i 0).val * 4096 + (i 1).val) * 1024 + (64 * (i 2).val + (i 3).val) = (((i 0).val * 4096 + (i 1).val) * 16 + (i 2).val) * 64 + (i 3).val
  omega

/-- Dropping the unit axis of the initial states. -/
theorem init_apply {v : FVec Ideal S4x1x16x64x64 .f32} {d : ℕ → ℕ → ℕ → ℕ → EReal}
    (h : ∀ i : S4x1x16x64x64.Idx, v i = d (i 0).val (i 2).val (i 3).val (i 4).val) (i : S4x16x64x64.Idx) :
    shapeCast S4x16x64x64 v shapeCasts_S4x1x16x64x64_S4x16x64x64 i = d (i 0).val (i 1).val (i 2).val (i 3).val := by
  refine (shapeCast_apply v _ i (ix5 ⟨(i 0).val, (i 0).isLt⟩ ⟨0, Nat.one_pos⟩ ⟨(i 1).val, (i 1).isLt⟩ ⟨(i 2).val, (i 2).isLt⟩ ⟨(i 3).val, (i 3).isLt⟩) ?_).trans (h _)
  rw [Shape.rowMajor_val_five, Shape.rowMajor_val_four]
  show (((((i 0).val * 1 + 0) * 16 + (i 1).val) * 64 + (i 2).val) * 64 + (i 3).val) = (((i 0).val * 16 + (i 1).val) * 64 + (i 2).val) * 64 + (i 3).val
  omega

variable (m : (ℓ : Loc nD τ sig) → Buf (Elt Ideal) ℓ) (c : Dev nD)

/-- The arguments of the kernel hold the real numbers `dX`, `dA`, `dB`, `dC`, and its initial states the extended reals `dI`. -/
structure Holds (dX : ℕ → ℕ → ℕ → ℕ → ℝ) (dI : ℕ → ℕ → ℕ → ℕ → EReal) (dA : ℕ → ℕ → ℕ → ℝ) (dB dC : ℕ → ℕ → ℕ → ℕ → ℝ) : Prop where
  x : ∀ i : S4x4096x16x64.Idx, m ((c.tc : Thread nD τ).loc main_arg0) i = ((dX (i 0).val (i 1).val (i 2).val (i 3).val : ℝ) : EReal)
  s : ∀ i : S4x1x16x64x64.Idx, m ((c.tc : Thread nD τ).loc main_arg1) i = dI (i 0).val (i 2).val (i 3).val (i 4).val
  a : ∀ i : S4x4096x16.Idx, m ((c.tc : Thread nD τ).loc main_arg2) i = ((dA (i 0).val (i 1).val (i 2).val : ℝ) : EReal)
  b : ∀ i : S4x4096x16x64.Idx, m ((c.tc : Thread nD τ).loc main_arg3) i = ((dB (i 0).val (i 1).val (i 2).val (i 3).val : ℝ) : EReal)
  c : ∀ i : S4x4096x16x64.Idx, m ((c.tc : Thread nD τ).loc main_arg4) i = ((dC (i 0).val (i 1).val (i 2).val (i 3).val : ℝ) : EReal)

variable {m c}
variable {dX dB dC : ℕ → ℕ → ℕ → ℕ → ℝ} {dI : ℕ → ℕ → ℕ → ℕ → EReal} {dA : ℕ → ℕ → ℕ → ℝ}

/-- The printed index maps over the grid: point `t` is block row `t % 4` of batch `t / 4`. -/
theorem idx_of : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 4) = t.val / 4 ∧ win0_4.index t (1 : Fin 4) = 0 ∧ win0_4.index t (2 : Fin 4) = 0 ∧ win0_4.index t (3 : Fin 4) = 0)
    ∧ (win0_5.index t (0 : Fin 3) = t.val / 4 ∧ win0_5.index t (1 : Fin 3) = t.val % 4 ∧ win0_5.index t (2 : Fin 3) = 0) :=
  (by decide +kernel : ∀ t : Fin grid0.N, _)

/-- Block `t` of an operand with its heads side by side. -/
theorem blk0_isU (H : Holds m c dX dI dA dB dC) (t : Fin cfg0.N) :
    IsU2 (iblk m c 0 t : Vec Ideal S1x1024x1024 .f32) (fun r col => fl dX (t.val / 4) (1024 * (t.val % 4) + r) col) := fun y => by
  obtain ⟨⟨e0, e1, e2⟩, -⟩ := idx_of t
  have b0 : (y 0).val < 1 := (y 0).isLt
  have hV : V m c main_v0 = shapeCast S4x4096x1024 (m ((c.tc : Thread nD τ).loc main_arg0)) shapeCasts_S4x4096x16x64_S4x4096x1024 := by entry_read; rfl
  show V m c main_v0 (((cfg0.win 0).blk t).view.emb y) = _
  rw [hV, flat_apply H.x]
  show ((fl dX (win0_0.index t (0 : Fin 3) * 1 + 1 * (y 0).val) (win0_0.index t (1 : Fin 3) * 1024 + 1 * (y 1).val) (win0_0.index t (2 : Fin 3) * 1024 + 1 * (y 2).val) : ℝ) : EReal) = _
  rw [e0, e1, e2]
  congr 2 <;> omega

theorem blk2_isU (H : Holds m c dX dI dA dB dC) (t : Fin cfg0.N) :
    IsU2 (iblk m c 2 t : Vec Ideal S1x1024x1024 .f32) (fun r col => fl dB (t.val / 4) (1024 * (t.val % 4) + r) col) := fun y => by
  obtain ⟨-, -, ⟨e0, e1, e2⟩, -⟩ := idx_of t
  have b0 : (y 0).val < 1 := (y 0).isLt
  have hV : V m c main_v1 = shapeCast S4x4096x1024 (m ((c.tc : Thread nD τ).loc main_arg3)) shapeCasts_S4x4096x16x64_S4x4096x1024 := by entry_read; rfl
  show V m c main_v1 (((cfg0.win 2).blk t).view.emb y) = _
  rw [hV, flat_apply H.b]
  show ((fl dB (win0_2.index t (0 : Fin 3) * 1 + 1 * (y 0).val) (win0_2.index t (1 : Fin 3) * 1024 + 1 * (y 1).val) (win0_2.index t (2 : Fin 3) * 1024 + 1 * (y 2).val) : ℝ) : EReal) = _
  rw [e0, e1, e2]
  congr 2 <;> omega

theorem blk3_isU (H : Holds m c dX dI dA dB dC) (t : Fin cfg0.N) :
    IsU2 (iblk m c 3 t : Vec Ideal S1x1024x1024 .f32) (fun r col => fl dC (t.val / 4) (1024 * (t.val % 4) + r) col) := fun y => by
  obtain ⟨-, -, -, ⟨e0, e1, e2⟩, -⟩ := idx_of t
  have b0 : (y 0).val < 1 := (y 0).isLt
  have hV : V m c main_v2 = shapeCast S4x4096x1024 (m ((c.tc : Thread nD τ).loc main_arg4)) shapeCasts_S4x4096x16x64_S4x4096x1024 := by entry_read; rfl
  show V m c main_v2 (((cfg0.win 3).blk t).view.emb y) = _
  rw [hV, flat_apply H.c]
  show ((fl dC (win0_3.index t (0 : Fin 3) * 1 + 1 * (y 0).val) (win0_3.index t (1 : Fin 3) * 1024 + 1 * (y 1).val) (win0_3.index t (2 : Fin 3) * 1024 + 1 * (y 2).val) : ℝ) : EReal) = _
  rw [e0, e1, e2]
  congr 2 <;> omega

/-- Block `t` of the decays. -/
theorem blk1_isU (H : Holds m c dX dI dA dB dC) (t : Fin cfg0.N) :
    IsU2 (iblk m c 1 t : Vec Ideal S1x1024x16 .f32) (fun r h => dA (t.val / 4) (1024 * (t.val % 4) + r) h) := fun y => by
  obtain ⟨-, ⟨e0, e1, e2⟩, -⟩ := idx_of t
  have b0 : (y 0).val < 1 := (y 0).isLt
  show V m c main_arg2 (((cfg0.win 1).blk t).view.emb y) = _
  rw [V_main_arg2, H.a]
  show ((dA (win0_1.index t (0 : Fin 3) * 1 + 1 * (y 0).val) (win0_1.index t (1 : Fin 3) * 1024 + 1 * (y 1).val) (win0_1.index t (2 : Fin 3) * 16 + 1 * (y 2).val) : ℝ) : EReal) = _
  rw [e0, e1, e2]
  congr 2 <;> omega

/-- The initial states of point `t`'s batch. -/
theorem blk4_isS (H : Holds m c dX dI dA dB dC) (t : Fin cfg0.N) (y : S1x16x64x64.Idx) :
    (iblk m c 4 t : Vec Ideal S1x16x64x64 .f32) y = dI (t.val / 4) (y 1).val (y 2).val (y 3).val := by
  obtain ⟨-, -, -, -, ⟨e0, e1, e2, e3⟩, -⟩ := idx_of t
  have b0 : (y 0).val < 1 := (y 0).isLt
  have hV : V m c main_v3 = shapeCast S4x16x64x64 (m ((c.tc : Thread nD τ).loc main_arg1)) shapeCasts_S4x1x16x64x64_S4x16x64x64 := by entry_read; rfl
  show V m c main_v3 (((cfg0.win 4).blk t).view.emb y) = _
  rw [hV, init_apply H.s]
  show dI (win0_4.index t (0 : Fin 4) * 1 + 1 * (y 0).val) (win0_4.index t (1 : Fin 4) * 16 + 1 * (y 1).val) (win0_4.index t (2 : Fin 4) * 64 + 1 * (y 2).val) (win0_4.index t (3 : Fin 4) * 64 + 1 * (y 3).val) = _
  rw [e0, e1, e2, e3]
  congr 1 <;> omega

/-- Facts of two components are facts of the pair's. -/
theorem pair_of {α β : Type} {P : α → Prop} {Q : β → Prop} {x : α × β} {a : α} {b : β} (e : x = (a, b)) (h : P a ∧ Q b) : P x.1 ∧ Q x.2 := by
  subst e
  exact h

/-- Point `t` leaves the batch's results in its 1024 rows, and the states after them. -/
def Leaves (m : (ℓ : Loc nD τ sig) → Buf (Elt Ideal) ℓ) (c : Dev nD) (dX : ℕ → ℕ → ℕ → ℕ → ℝ) (dI : ℕ → ℕ → ℕ → ℕ → EReal) (dA : ℕ → ℕ → ℕ → ℝ) (dB dC : ℕ → ℕ → ℕ → ℕ → ℝ) (t : Fin cfg0.N) : Prop :=
  IsV2 (outsAt0 m c t.val t.isLt).1 (fun r col => outH (dA (t.val / 4)) (fl dX (t.val / 4)) (fl dB (t.val / 4)) (fl dC (t.val / 4)) (dI (t.val / 4)) (1024 * (t.val % 4) + r) (col / 64) (col % 64))
    ∧ IsS3 (outsAt0 m c t.val t.isLt).2 (stH (dA (t.val / 4)) (fl dX (t.val / 4)) (fl dB (t.val / 4)) (dI (t.val / 4)) (1024 * (t.val % 4) + 1024))

/-- So does a batch's first point. -/
theorem outs_A (H : Holds m c dX dI dA dB dC) (t : Fin cfg0.N) (h0 : t.val % 4 = 0) : Leaves m c dX dI dA dB dC t := by
  have h := point_A (gx := fl dX (t.val / 4)) (ga := dA (t.val / 4)) (gb := fl dB (t.val / 4)) (gc := fl dC (t.val / 4)) (g0 := dI (t.val / 4)) (T := 1024 * (t.val % 4))
    c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (iblk m c 4 t) (by rw [h0]) ((hcond0_0 t).mpr h0)
    (blk0_isU H t) (blk1_isU H t) (blk2_isU H t) (blk3_isU H t) (blk4_isS H t)
  exact pair_of (P := fun v => IsV2 v _) (Q := fun v => IsS3 v _) (outsAt0_A m c t h0) h

/-- So does a later point of a batch, when the point before left the states. -/
theorem outs_B (H : Holds m c dX dI dA dB dC) (t : Fin cfg0.N) (h0 : ¬t.val % 4 = 0)
    (hs : IsS3 (outsAt0 m c (t.val - 1) (Nat.lt_of_le_of_lt (Nat.sub_le _ _) t.isLt)).2 (stH (dA (t.val / 4)) (fl dX (t.val / 4)) (fl dB (t.val / 4)) (dI (t.val / 4)) (1024 * (t.val % 4)))) : Leaves m c dX dI dA dB dC t := by
  have h := point_B (gx := fl dX (t.val / 4)) (ga := dA (t.val / 4)) (gb := fl dB (t.val / 4)) (gc := fl dC (t.val / 4)) (g0 := dI (t.val / 4)) (T := 1024 * (t.val % 4))
    c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (iblk m c 4 t) _ (fun h => h0 ((hcond0_0 t).mp h))
    (blk0_isU H t) (blk1_isU H t) (blk2_isU H t) (blk3_isU H t) hs
  exact pair_of (P := fun v => IsV2 v _) (Q := fun v => IsS3 v _) (outsAt0_B m c t h0) h

/-- So does every point. -/
theorem outs_real (H : Holds m c dX dI dA dB dC) : ∀ (n : ℕ) (hn : n < cfg0.N), Leaves m c dX dI dA dB dC ⟨n, hn⟩ := by
  intro n
  induction n with
  | zero => exact fun hn => outs_A H ⟨0, hn⟩ (Nat.zero_mod _)
  | succ n ih =>
    intro hn
    by_cases h0 : (n + 1) % 4 = 0
    · exact outs_A H ⟨n + 1, hn⟩ h0
    · refine outs_B H ⟨n + 1, hn⟩ h0 ?_
      have hs := (ih (Nat.lt_of_succ_lt hn)).2
      dsimp only at hs ⊢
      rw [show n / 4 = (n + 1) / 4 by omega, show 1024 * (n % 4) + 1024 = 1024 * ((n + 1) % 4) by omega] at hs
      exact hs

/-- The result array's entries, heads side by side. -/
def resH (dX : ℕ → ℕ → ℕ → ℕ → ℝ) (dI : ℕ → ℕ → ℕ → ℕ → EReal) (dA : ℕ → ℕ → ℕ → ℝ) (dB dC : ℕ → ℕ → ℕ → ℕ → ℝ) (b t col : ℕ) : EReal :=
  outH (dA b) (fl dX b) (fl dB b) (fl dC b) (dI b) t (col / 64) (col % 64)

/-- What point `t` writes back is its block of the result array. -/
theorem flushed_real (H : Holds m c dX dI dA dB dC) (t : Fin cfg0.N) :
    (dats m 0 c).flushed 5 t = ((cfg0.win 5).blk t).view.read (Elt Ideal)
      (fun i : S4x4096x1024.Idx => resH dX dI dA dB dC (i 0).val (i 1).val (i 2).val) := by
  obtain ⟨-, -, -, -, -, ⟨e0, e1, e2⟩⟩ := idx_of t
  show (cfg0.win 5).cut (grid0.coords t) ((dats m 0 c).after 5 t) = _
  rw [after0_5]
  funext y
  have b0 : (y 0).val < 1 := (y 0).isLt
  refine ((outs_real H t.val t.isLt).1 ((cfg0.win 5).xinj (grid0.coords t) y)).trans ?_
  show _ = resH dX dI dA dB dC (win0_5.index t (0 : Fin 3) * 1 + 1 * (y 0).val) (win0_5.index t (1 : Fin 3) * 1024 + 1 * (y 1).val) (win0_5.index t (2 : Fin 3) * 1024 + 1 * (y 2).val)
  rw [e0, e1, e2, show t.val / 4 * 1 + 1 * (y 0).val = t.val / 4 by omega, show t.val % 4 * 1024 + 1 * (y 1).val = 1024 * (t.val % 4) + (y 1).val by omega,
    show 0 * 1024 + 1 * (y 2).val = (y 2).val by omega]
  rfl

/-- An index of the array is in point `t`'s block iff each coordinate is in the block's range on its axis. -/
theorem mem_out (t : Fin cfg0.N) (i : S4x4096x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v4).slice (win0_5.rect t)).set ↔ _
  rw [View.set_slice_whole, Rect.mem_set_unit]
  exact Iff.rfl

/-- The kernel's array after the run. -/
theorem array_real (H : Holds m c dX dI dA dB dC) :
    (dats m 0 c).arrAt 5 cfg0.N = (fun i : S4x4096x1024.Idx => resH dX dI dA dB dC (i 0).val (i 1).val (i 2).val) :=
  (dats m 0 c).arrAt_eq_of_cover 5 _ (fun t _ => flushed_real H t) (fun i => by
    have b0 : (i 0).val < 4 := (i 0).isLt
    have b1 : (i 1).val < 4096 := (i 1).isLt
    have b2 : (i 2).val < 1024 := (i 2).isLt
    have hN : cfg0.N = 16 := N_0
    refine ⟨⟨4 * (i 0).val + (i 1).val / 1024, by omega⟩, flush0_5 _, ?_⟩
    obtain ⟨-, -, -, -, -, ⟨e0, e1, e2⟩⟩ := idx_of ⟨4 * (i 0).val + (i 1).val / 1024, by omega⟩
    dsimp only at e0 e1 e2
    refine (mem_out _ i).mpr fun a => ?_
    match a with
    | ⟨0, _⟩ => show win0_5.index _ (0 : Fin 3) * 1 ≤ (i 0).val ∧ (i 0).val < win0_5.index _ (0 : Fin 3) * 1 + 1; rw [e0]; omega
    | ⟨1, _⟩ => show win0_5.index _ (1 : Fin 3) * 1024 ≤ (i 1).val ∧ (i 1).val < win0_5.index _ (1 : Fin 3) * 1024 + 1024; rw [e1]; omega
    | ⟨2, _⟩ => show win0_5.index _ (2 : Fin 3) * 1024 ≤ (i 2).val ∧ (i 2).val < win0_5.index _ (2 : Fin 3) * 1024 + 1024; rw [e2]; omega)

/-- The kernel's result after the run: at row `t`, head `h`, entry `p` of batch `b`, the scan's result. -/
theorem result_real (H : Holds m c dX dI dA dB dC) (i : S4x4096x16x64.Idx) :
    Pipeline.afterTail₀ cfgs (dats m) 0 (V0 m) [hostOps1] c main_v5 i
      = resH dX dI dA dB dC (i 0).val (i 1).val (64 * (i 2).val + (i 3).val) := by
  have e : Pipeline.afterTail₀ cfgs (dats m) 0 (V0 m) [hostOps1] c main_v5
      = shapeCast S4x4096x16x64 ((dats m 0 c).arrAt 5 cfg0.N : FVec Ideal S4x4096x1024 .f32) shapeCasts_S4x4096x1024_S4x4096x16x64 := by
    have key : ∀ W : Valuation τ sig (Elt Ideal), StableHlo.after (List.flatten [hostOps1]) W (Proc.devRef .tc main_v5)
        = shapeCast S4x4096x16x64 (W (Proc.devRef .tc main_v4)) shapeCasts_S4x4096x1024_S4x4096x16x64 := fun W => by entry_read; rfl
    unfold Pipeline.afterTail₀
    refine (key _).trans (congrArg (fun v => shapeCast S4x4096x16x64 v shapeCasts_S4x4096x1024_S4x4096x16x64) ?_)
    exact Pipeline.withArrays_arr spec0 (by decide) c (V0 m c) (fun w => (dats m 0 c).arrAt w cfg0.N) 5
  rw [e, array_real H]
  exact unflat_apply (fun _ => rfl) i

/-- The kernel runs to the end, and its result holds the scan's results. -/
theorem run_real (ρ : Dev nD → PrngReg) : θ_run defs (onTc (τ := τ) (main (F := Ideal))) ⟨m, fun _ => 0, ρ⟩ fun r => ∀ c : Dev nD,
    ∀ dX dI dA dB dC, Holds m c dX dI dA dB dC → ∀ i : S4x4096x16x64.Idx,
      r.2.mem ((c.tc : Thread nD τ).loc main_v5) i = resH dX dI dA dB dC (i 0).val (i 1).val (64 * (i 2).val + (i 3).val) :=
  (θ_run defs _ _).mono (fun r h c dX dI dA dB dC H i =>
      (congrFun ((h c).2 main_v5 (Pipeline.mem_restRefs_of main_v5 (by decide) (by decide))) i).trans (result_real H i))
    (run_main m ρ)

end Cert.KernelIdeal.Blk
end
-- ==== Proof.Win.lean ====
module

public import proofs.«01_k».proof.Proof.Val
public import proofs.«01_k».proof.Proof.Gen.ReferenceIdeal.Read
public import Idealize.ShloMosaic.Lib.KernelVsHost

@[expose] public section

noncomputable section

/-! The reference's running sums and masks, when its arguments hold real numbers. -/

namespace Cert.Scan

open Idealize.ShloMosaic Idealize.ShloMosaic.TcCoe Finset Cert.KernelIdeal.Blk
open Idealize.ShloMosaic.ValueIdx

/-- A left fold that adds one term per step is the sum of the terms. -/
theorem foldl_add_sum (n : ℕ) (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, ← List.ofFn_eq_map, List.sum_ofFn]

/-- A window sum at an index: a sum over the window's positions. -/
theorem windowAdd_apply {s t u : Shape} (window strides lo hi : Fin s.rank → ℕ) (x : FVec Ideal s .f32) (init : u.Idx → EReal)
    (h : s.ReduceWindows window strides lo hi t) (hu : 0 < u.numel) (h0 : init (Shape.Idx.first hu) = 0) (j : t.Idx) :
    (Host.reduceWindowAdd window strides lo hi x init h hu : FVec Ideal t .f32) j
      = ∑ q : (⟨s.rank, window⟩ : Shape).Idx,
        if hin : ∀ a, lo a ≤ (j (a.cast h.1.symm)).val * strides a + (q a).val ∧ (j (a.cast h.1.symm)).val * strides a + (q a).val - lo a < s.size a
        then x (fun a => ⟨(j (a.cast h.1.symm)).val * strides a + (q a).val - lo a, (hin a).2⟩) else 0 := by
  rw [← (⟨s.rank, window⟩ : Shape).rowMajor.symm.sum_comp]
  refine (foldl_add_sum _ _ _).trans ?_
  rw [h0, zero_add]
  exact sum_congr rfl fun k _ => dite_congr rfl (fun _ => rfl) (fun _ => rfl)

/-- The terms of a window that ends at entry `l`, with zero before the first entry, add up to the sum of the entries up to `l`. -/
theorem sum_window {K l : ℕ} (hl : l < K) (f : ℕ → ℝ) :
    ∑ k ∈ range K, (if K - 1 ≤ l + k then f (l + k - (K - 1)) else 0) = ∑ k ∈ range (l + 1), f k := by
  rw [show K = (K - 1 - l) + (l + 1) by omega, sum_range_add]
  have h1 : ∑ k ∈ range (K - 1 - l), (if K - 1 - l + (l + 1) - 1 ≤ l + k then f (l + k - (K - 1 - l + (l + 1) - 1)) else 0) = 0 :=
    sum_eq_zero fun k hk => if_neg (by have := mem_range.mp hk; omega)
  rw [h1, zero_add]
  refine sum_congr rfl fun k hk => ?_
  rw [if_pos (by omega)]
  congr 1; omega

/-- A position of a window that spans the last of four axes, by its last coordinate. -/
def win4 (K : ℕ) : Fin K ≃ (⟨4, ![1, 1, 1, K]⟩ : Shape).Idx where
  toFun k := ix4 0 0 0 k
  invFun q := q 3
  left_inv k := rfl
  right_inv q := by
    have b0 : (q 0).val < 1 := (q 0).isLt
    have b1 : (q 1).val < 1 := (q 1).isLt
    have b2 : (q 2).val < 1 := (q 2).isLt
    funext a
    match a with
    | ⟨0, _⟩ => exact Fin.ext (by show 0 = (q 0).val; omega)
    | ⟨1, _⟩ => exact Fin.ext (by show 0 = (q 1).val; omega)
    | ⟨2, _⟩ => exact Fin.ext (by show 0 = (q 2).val; omega)
    | ⟨3, _⟩ => rfl

/-- A position of a window that spans the last of three axes, by its last coordinate. -/
def win3 (K : ℕ) : Fin K ≃ (⟨3, ![1, 1, K]⟩ : Shape).Idx where
  toFun k := ix3 0 0 k
  invFun q := q 2
  left_inv k := rfl
  right_inv q := by
    have b0 : (q 0).val < 1 := (q 0).isLt
    have b1 : (q 1).val < 1 := (q 1).isLt
    funext a
    match a with
    | ⟨0, _⟩ => exact Fin.ext (by show 0 = (q 0).val; omega)
    | ⟨1, _⟩ => exact Fin.ext (by show 0 = (q 1).val; omega)
    | ⟨2, _⟩ => rfl

/-- The running sum along the last of four axes. -/
theorem cumsum4 {n0 n1 n2 K : ℕ} {u : Shape} {x : FVec Ideal ⟨4, ![n0, n1, n2, K]⟩ .f32} {f : ℕ → ℕ → ℕ → ℕ → ℝ}
    (hx : ∀ i, x i = ((f (i 0).val (i 1).val (i 2).val (i 3).val : ℝ) : EReal)) (init : u.Idx → EReal)
    (h : (⟨4, ![n0, n1, n2, K]⟩ : Shape).ReduceWindows ![1, 1, 1, K] ![1, 1, 1, 1] ![0, 0, 0, K - 1] ![0, 0, 0, 0] ⟨4, ![n0, n1, n2, K]⟩)
    (hu : 0 < u.numel) (h0 : init (Shape.Idx.first hu) = 0) (j : (⟨4, ![n0, n1, n2, K]⟩ : Shape).Idx) :
    (Host.reduceWindowAdd ![1, 1, 1, K] ![1, 1, 1, 1] ![0, 0, 0, K - 1] ![0, 0, 0, 0] x init h hu : FVec Ideal ⟨4, ![n0, n1, n2, K]⟩ .f32) j
      = ((∑ k ∈ range ((j 3).val + 1), f (j 0).val (j 1).val (j 2).val k : ℝ) : EReal) := by
  have b0 : (j 0).val < n0 := (j 0).isLt
  have b1 : (j 1).val < n1 := (j 1).isLt
  have b2 : (j 2).val < n2 := (j 2).isLt
  have b3 : (j 3).val < K := (j 3).isLt
  rw [windowAdd_apply _ _ _ _ _ _ _ _ h0, ← (win4 K).sum_comp, ← sum_window b3 (fun k => f (j 0).val (j 1).val (j 2).val k), ← coe_sum_fin K]
  refine sum_congr rfl fun k _ => ?_
  have hk := k.isLt
  by_cases hc : K - 1 ≤ (j 3).val + k.val
  · rw [if_pos hc, dif_pos, hx]
    · congr 2
      · show (j 0).val * 1 + 0 - 0 = _; omega
      · show (j 1).val * 1 + 0 - 0 = _; omega
      · show (j 2).val * 1 + 0 - 0 = _; omega
      · show (j 3).val * 1 + k.val - (K - 1) = _; omega
    · intro a
      match a with
      | ⟨0, _⟩ => show 0 ≤ (j 0).val * 1 + 0 ∧ (j 0).val * 1 + 0 - 0 < n0; omega
      | ⟨1, _⟩ => show 0 ≤ (j 1).val * 1 + 0 ∧ (j 1).val * 1 + 0 - 0 < n1; omega
      | ⟨2, _⟩ => show 0 ≤ (j 2).val * 1 + 0 ∧ (j 2).val * 1 + 0 - 0 < n2; omega
      | ⟨3, _⟩ => show K - 1 ≤ (j 3).val * 1 + k.val ∧ (j 3).val * 1 + k.val - (K - 1) < K; omega
  · rw [if_neg hc, dif_neg]
    · rfl
    · intro hin
      have h3 : K - 1 ≤ (j 3).val * 1 + k.val := (hin 3).1
      omega

/-- The running sum along the last of three axes. -/
theorem cumsum3 {n0 n1 K : ℕ} {u : Shape} {x : FVec Ideal ⟨3, ![n0, n1, K]⟩ .f32} {f : ℕ → ℕ → ℕ → ℝ}
    (hx : ∀ i, x i = ((f (i 0).val (i 1).val (i 2).val : ℝ) : EReal)) (init : u.Idx → EReal)
    (h : (⟨3, ![n0, n1, K]⟩ : Shape).ReduceWindows ![1, 1, K] ![1, 1, 1] ![0, 0, K - 1] ![0, 0, 0] ⟨3, ![n0, n1, K]⟩)
    (hu : 0 < u.numel) (h0 : init (Shape.Idx.first hu) = 0) (j : (⟨3, ![n0, n1, K]⟩ : Shape).Idx) :
    (Host.reduceWindowAdd ![1, 1, K] ![1, 1, 1] ![0, 0, K - 1] ![0, 0, 0] x init h hu : FVec Ideal ⟨3, ![n0, n1, K]⟩ .f32) j
      = ((∑ k ∈ range ((j 2).val + 1), f (j 0).val (j 1).val k : ℝ) : EReal) := by
  have b0 : (j 0).val < n0 := (j 0).isLt
  have b1 : (j 1).val < n1 := (j 1).isLt
  have b2 : (j 2).val < K := (j 2).isLt
  rw [windowAdd_apply _ _ _ _ _ _ _ _ h0, ← (win3 K).sum_comp, ← sum_window b2 (fun k => f (j 0).val (j 1).val k), ← coe_sum_fin K]
  refine sum_congr rfl fun k _ => ?_
  have hk := k.isLt
  by_cases hc : K - 1 ≤ (j 2).val + k.val
  · rw [if_pos hc, dif_pos, hx]
    · congr 2
      · show (j 0).val * 1 + 0 - 0 = _; omega
      · show (j 1).val * 1 + 0 - 0 = _; omega
      · show (j 2).val * 1 + k.val - (K - 1) = _; omega
    · intro a
      match a with
      | ⟨0, _⟩ => show 0 ≤ (j 0).val * 1 + 0 ∧ (j 0).val * 1 + 0 - 0 < n0; omega
      | ⟨1, _⟩ => show 0 ≤ (j 1).val * 1 + 0 ∧ (j 1).val * 1 + 0 - 0 < n1; omega
      | ⟨2, _⟩ => show K - 1 ≤ (j 2).val * 1 + k.val ∧ (j 2).val * 1 + k.val - (K - 1) < K; omega
  · rw [if_neg hc, dif_neg]
    · rfl
    · intro hin
      have h2 : K - 1 ≤ (j 2).val * 1 + k.val := (hin 2).1
      omega

/-- The lower triangle's choice: the first value on and below the diagonal, the second above. -/
theorem tril_select {a b : ℕ} (ha : a < 100) (hb : b < 100) (x y : EReal) :
    Scalar.select (Scalar.select (IntOp.cmpi .sge (IntOp.addi (BitVec.ofNat 32 a) 0#32) (BitVec.ofNat 32 b)) 1#1 0#1) x y = if b ≤ a then x else y := by
  rw [show IntOp.addi (BitVec.ofNat 32 a) 0#32 = BitVec.ofNat 32 a from BitVec.add_zero _,
    WordCmp.cmpi_sge_ofNat (lt_trans ha (by decide)) (lt_trans hb (by decide)), WordCmp.select_decide]
  split <;> rfl

/-- The word of minus infinity. -/
theorem ofBits_bot : Ideal.ofBits .f32 0xFF800000#32 = ⊥ := by simp [Ideal.ofBits, Ideal.ieee]

/-- The exponential of a difference kept on and below the diagonal, minus infinity above it. -/
theorem exp_masked (p : Prop) [Decidable p] (x y : ℝ) :
    Ideal.exp (if p then (x : EReal) - (y : EReal) else ⊥) = ((if p then Real.exp (x - y) else 0 : ℝ) : EReal) := by
  by_cases hp : p
  · rw [if_pos hp, if_pos hp, ← EReal.coe_sub]; rfl
  · rw [if_neg hp, if_neg hp]; rfl

end Cert.Scan
end
-- ==== Proof.Ref.lean ====
module

public import proofs.«01_k».proof.Proof.Win

@[expose] public section

noncomputable section

/-! The reference's result, when its arguments but the initial states hold real numbers: one theorem per array it makes. -/

namespace Cert.ReferenceIdeal.Real

open Cert.ReferenceIdeal Cert.ReferenceIdeal.Gen Cert.ReferenceIdeal.Read Idealize.ShloMosaic Idealize.ShloMosaic.TcCoe Finset
open Idealize.ShloMosaic.ValueIdx Cert.Scan Cert.KernelIdeal.Blk

variable {x0 x3 x4 : FVec Ideal S4x4096x16x64 .f32} {x1 : FVec Ideal S4x1x16x64x64 .f32} {x2 : FVec Ideal S4x4096x16 .f32}
variable {dX dB dC : ℕ → ℕ → ℕ → ℕ → ℝ} {dI : ℕ → ℕ → ℕ → ℕ → EReal} {dA : ℕ → ℕ → ℕ → ℝ}

/-- An operand in blocks of 64 rows. -/
theorem v0_real (hx : ∀ i : S4x4096x16x64.Idx, x0 i = ((dX (i 0).val (i 1).val (i 2).val (i 3).val : ℝ) : EReal)) (i : S4x64x64x16x64.Idx) :
    val_main_v0 (F := Ideal) x0 i = ((wH (fl dX (i 0).val) (i 3).val (64 * (i 1).val + (i 2).val) (i 4).val : ℝ) : EReal) := by
  have b0 : (i 0).val < 4 := (i 0).isLt
  have b1 : (i 1).val < 64 := (i 1).isLt
  have b2 : (i 2).val < 64 := (i 2).isLt
  have b3 : (i 3).val < 16 := (i 3).isLt
  have b4 : (i 4).val < 64 := (i 4).isLt
  rw [val_main_v0_apply, hx]
  unfold wH fl
  congr 2 <;> simp only [idx_main_v0] <;> omega

/-- The other two operands in blocks. -/
theorem v3_real (hb : ∀ i : S4x4096x16x64.Idx, x3 i = ((dB (i 0).val (i 1).val (i 2).val (i 3).val : ℝ) : EReal)) (i : S4x64x64x16x64.Idx) :
    val_main_v3 (F := Ideal) x3 i = ((wH (fl dB (i 0).val) (i 3).val (64 * (i 1).val + (i 2).val) (i 4).val : ℝ) : EReal) := v0_real hb i

theorem v4_real (hc : ∀ i : S4x4096x16x64.Idx, x4 i = ((dC (i 0).val (i 1).val (i 2).val (i 3).val : ℝ) : EReal)) (i : S4x64x64x16x64.Idx) :
    val_main_v4 (F := Ideal) x4 i = ((wH (fl dC (i 0).val) (i 3).val (64 * (i 1).val + (i 2).val) (i 4).val : ℝ) : EReal) := v0_real hc i

section Decay
variable (ha : ∀ i : S4x4096x16.Idx, x2 i = ((dA (i 0).val (i 1).val (i 2).val : ℝ) : EReal))
include ha

/-- The decays in blocks. -/
theorem v2_real (i : S4x16x64x64.Idx) :
    val_main_v2 (F := Ideal) x2 i = ((aH (dA (i 0).val) (i 1).val (64 * (i 2).val + (i 3).val) : ℝ) : EReal) := by
  have b0 : (i 0).val < 4 := (i 0).isLt
  have b1 : (i 1).val < 16 := (i 1).isLt
  have b2 : (i 2).val < 64 := (i 2).isLt
  have b3 : (i 3).val < 64 := (i 3).isLt
  rw [val_main_v2_apply, val_main_v1_apply, ha]
  unfold aH
  congr 2 <;> simp only [idx_main_v1, idx_main_v2] <;> omega

/-- Their running sums inside the blocks. -/
theorem v5_real (i : S4x16x64x64.Idx) :
    val_main_v5 (F := Ideal) x2 i = ((loc (aH (dA (i 0).val) (i 1).val) (64 * (i 2).val) (i 3).val : ℝ) : EReal) :=
  cumsum4 (K := 64) (f := fun b h z l => aH (dA b) h (64 * z + l)) (v2_real ha) _ _ _ Ideal.ofBits_zero_f32 i

theorem v6_real (i : S4x16x64x64.Idx) :
    val_main_v6 (F := Ideal) x2 i = ((loc (aH (dA (i 0).val) (i 1).val) (64 * (i 2).val) (i 3).val : ℝ) : EReal) := v5_real ha i

/-- The decay from row `s` to row `l` of a block. -/
theorem v15_real (i : S4x16x64x64x64.Idx) :
    val_main_v15 (F := Ideal) x2 i = ((if (i 4).val ≤ (i 3).val then Real.exp (loc (aH (dA (i 0).val) (i 1).val) (64 * (i 2).val) (i 3).val
      - loc (aH (dA (i 0).val) (i 1).val) (64 * (i 2).val) (i 4).val) else 0 : ℝ) : EReal) := by
  have b3 : (i 3).val < 64 := (i 3).isLt
  have b4 : (i 4).val < 64 := (i 4).isLt
  rw [val_main_v15_apply, val_main_v14_apply, val_main_call3_v1_apply, val_main_v13_apply, val_main_call2_v4_apply, val_main_v12_apply,
    val_main_call2_v5_apply, val_main_call2_v2_apply, val_main_call2_v1_apply, val_main_call2_v3_apply, val_main_call2_v0_apply,
    val_main_v11_apply, val_main_v9_apply, val_main_v10_apply, val_main_v7_apply, val_main_v8_apply, v6_real ha, v6_real ha,
    val_main_call3_v2_apply, val_main_call3_v0_apply, val_main_cst_apply]
  refine Eq.trans ?_ (exp_masked ((i 4).val ≤ (i 3).val) _ _)
  refine congrArg Ideal.exp ?_
  refine (tril_select (a := (i 3).val) (b := (i 4).val) (by omega) (by omega) _ _).trans ?_
  rw [show FloatOps.ofBits (F := Ideal) .f32 0xFF800000#32 = (⊥ : EReal) from ofBits_bot]
  rfl

/-- The decay from a row of a block to the block's end. -/
theorem v24_real (i : S4x16x64x64.Idx) :
    val_main_v24 (F := Ideal) x2 i = ((Real.exp (loc (aH (dA (i 0).val) (i 1).val) (64 * (i 2).val) 63
      - loc (aH (dA (i 0).val) (i 1).val) (64 * (i 2).val) (i 3).val) : ℝ) : EReal) := by
  rw [val_main_v24_apply, val_main_v23_apply, val_main_v22_apply, val_main_v21_apply, v5_real ha, v5_real ha]
  show Ideal.exp ((_ : ℝ) - (_ : ℝ) : EReal) = _
  rw [← EReal.coe_sub]
  rfl

/-- The blocks' whole decays, a zero before them. -/
theorem v33_real (i : S4x16x65.Idx) :
    val_main_v33 (F := Ideal) x2 i = ((padded (aH (dA (i 0).val) (i 1).val) (i 2).val : ℝ) : EReal) := by
  have b0 : (i 0).val < 4 := (i 0).isLt
  have b1 : (i 1).val < 16 := (i 1).isLt
  have b2 : (i 2).val < 65 := (i 2).isLt
  unfold val_main_v33
  by_cases hz : (i 2).val = 0
  · refine (pad_apply_of_not_inside _ _ _ _ _ _ _ i 2 (fun h => ?_)).trans ?_
    · have h1 : 1 ≤ (i 2).val := h.1
      omega
    · rw [val_main_call4_v0_apply, val_main_c_0_apply, hz]
      show ((((0#32 : BitVec 32).toInt : ℝ)) : EReal) = ((0 : ℝ) : EReal)
      simp
  · refine (pad_apply_of_inside _ _ _ _ _ _ _ i (ix3 ⟨(i 0).val, b0⟩ ⟨(i 1).val, b1⟩ ⟨(i 2).val - 1, by omega⟩) (fun a => ?_)).trans ?_
    · match a with
      | ⟨0, _⟩ => show (i 0).val = 0 + (i 0).val * (0 + 1); omega
      | ⟨1, _⟩ => show (i 1).val = 0 + (i 1).val * (0 + 1); omega
      | ⟨2, _⟩ => show (i 2).val = 1 + ((i 2).val - 1) * (0 + 1); omega
    · rw [val_main_v32_apply, val_main_v31_apply, v5_real ha]
      obtain ⟨u, hu⟩ : ∃ u, (i 2).val = u + 1 := ⟨(i 2).val - 1, by omega⟩
      refine Eq.trans ?_ (congrArg (fun w => ((padded (aH (dA (i 0).val) (i 1).val) w : ℝ) : EReal)) hu.symm)
      show ((loc (aH (dA ((((i 0).val * 16 + (i 1).val) * 64 + ((i 2).val - 1)) / 1024)) ((((i 0).val * 16 + (i 1).val) * 64 + ((i 2).val - 1)) / 64 % 16)) (64 * ((((i 0).val * 16 + (i 1).val) * 64 + ((i 2).val - 1)) / 1 % 64)) (63 + 0) : ℝ) : EReal) = ((loc (aH (dA (i 0).val) (i 1).val) (64 * u) 63 : ℝ) : EReal)
      rw [show (((i 0).val * 16 + (i 1).val) * 64 + ((i 2).val - 1)) / 1024 = (i 0).val by omega,
        show (((i 0).val * 16 + (i 1).val) * 64 + ((i 2).val - 1)) / 64 % 16 = (i 1).val by omega,
        show (((i 0).val * 16 + (i 1).val) * 64 + ((i 2).val - 1)) / 1 % 64 = u by omega]

/-- Their prefix sums. -/
theorem v34_real (i : S4x16x65.Idx) :
    val_main_v34 (F := Ideal) x2 i = ((pcum (aH (dA (i 0).val) (i 1).val) (i 2).val : ℝ) : EReal) :=
  cumsum3 (K := 65) (f := fun b h z => padded (aH (dA b) h) z) (v33_real ha) _ _ _ Ideal.ofBits_zero_f32 i

/-- The decay from block `k` to block `z`. -/
theorem v43_real (i : S4x16x65x65.Idx) :
    val_main_v43 (F := Ideal) x2 i = ((if (i 3).val ≤ (i 2).val then Real.exp (pcum (aH (dA (i 0).val) (i 1).val) (i 2).val
      - pcum (aH (dA (i 0).val) (i 1).val) (i 3).val) else 0 : ℝ) : EReal) := by
  have b2 : (i 2).val < 65 := (i 2).isLt
  have b3 : (i 3).val < 65 := (i 3).isLt
  rw [val_main_v43_apply, val_main_v42_apply, val_main_call7_v1_apply, val_main_v41_apply, val_main_call6_v4_apply, val_main_v40_apply,
    val_main_call6_v5_apply, val_main_call6_v2_apply, val_main_call6_v1_apply, val_main_call6_v3_apply, val_main_call6_v0_apply,
    val_main_v39_apply, val_main_v37_apply, val_main_v38_apply, val_main_v35_apply, val_main_v36_apply, v34_real ha, v34_real ha,
    val_main_call7_v2_apply, val_main_call7_v0_apply, val_main_cst_2_apply]
  refine Eq.trans ?_ (exp_masked ((i 3).val ≤ (i 2).val) _ _)
  refine congrArg Ideal.exp ?_
  refine (tril_select (a := (i 2).val) (b := (i 3).val) (by omega) (by omega) _ _).trans ?_
  rw [show FloatOps.ofBits (F := Ideal) .f32 0xFF800000#32 = (⊥ : EReal) from ofBits_bot]
  rfl

/-- The decay from a block's start through a row, repeated over the columns. -/
theorem v52_real (i : S4x64x64x16x64.Idx) :
    val_main_v52 (F := Ideal) x2 i = ((Real.exp (loc (aH (dA (i 0).val) (i 3).val) (64 * (i 1).val) (i 2).val) : ℝ) : EReal) := by
  rw [val_main_v52_apply, val_main_v51_apply, val_main_v50_apply, val_main_v47_apply, v5_real ha]
  rfl

/-- The decay to a block's end, repeated over the columns. -/
theorem v27_real (i : S4x64x64x16x64.Idx) :
    val_main_v27 (F := Ideal) x2 i = ((Real.exp (loc (aH (dA (i 0).val) (i 3).val) (64 * (i 1).val) 63
      - loc (aH (dA (i 0).val) (i 3).val) (64 * (i 1).val) (i 2).val) : ℝ) : EReal) := by
  rw [val_main_v27_apply, val_main_v26_apply, val_main_v25_apply, v24_real ha]

variable (hx : ∀ i : S4x4096x16x64.Idx, x0 i = ((dX (i 0).val (i 1).val (i 2).val (i 3).val : ℝ) : EReal))
variable (hs : ∀ i : S4x1x16x64x64.Idx, x1 i = dI (i 0).val (i 2).val (i 3).val (i 4).val)
variable (hb : ∀ i : S4x4096x16x64.Idx, x3 i = ((dB (i 0).val (i 1).val (i 2).val (i 3).val : ℝ) : EReal))
variable (hc : ∀ i : S4x4096x16x64.Idx, x4 i = ((dC (i 0).val (i 1).val (i 2).val (i 3).val : ℝ) : EReal))

include hb hc in
/-- A block's decayed scores. -/
theorem v18_real (i : S4x64x16x64x64.Idx) :
    val_main_v18 (F := Ideal) x2 x3 x4 i = (((if (i 4).val ≤ (i 3).val then Real.exp (loc (aH (dA (i 0).val) (i 2).val) (64 * (i 1).val) (i 3).val
        - loc (aH (dA (i 0).val) (i 2).val) (64 * (i 1).val) (i 4).val) else 0)
      * ∑ n ∈ range 64, wH (fl dB (i 0).val) (i 2).val (64 * (i 1).val + (i 4).val) n * wH (fl dC (i 0).val) (i 2).val (64 * (i 1).val + (i 3).val) n : ℝ) : EReal) := by
  rw [val_main_v18_apply, val_main_v17_apply, v15_real ha, val_main_v16_apply]
  have e : ∑ k : Fin 64, val_main_v4 (F := Ideal) x4 (lidx_main_v16 i k) * val_main_v3 (F := Ideal) x3 (ridx_main_v16 i k)
      = ((∑ n ∈ range 64, wH (fl dB (i 0).val) (i 2).val (64 * (i 1).val + (i 4).val) n * wH (fl dC (i 0).val) (i 2).val (64 * (i 1).val + (i 3).val) n : ℝ) : EReal) := by
    rw [← coe_sum_fin 64]
    refine sum_congr rfl fun k _ => ?_
    rw [v4_real hc, v3_real hb, mul_comm, ← EReal.coe_mul]
  rw [e]
  refine (EReal.coe_mul _ _).symm.trans ?_
  rw [mul_comm]

include hx hb hc in
/-- What a block's own rows add to its results. -/
theorem v20_real (i : S4x64x64x16x64.Idx) :
    val_main_v20 (F := Ideal) x0 x2 x3 x4 i = ((∑ s ∈ range 64, ((if s ≤ (i 2).val then Real.exp (loc (aH (dA (i 0).val) (i 3).val) (64 * (i 1).val) (i 2).val
        - loc (aH (dA (i 0).val) (i 3).val) (64 * (i 1).val) s) else 0)
      * ∑ n ∈ range 64, wH (fl dB (i 0).val) (i 3).val (64 * (i 1).val + s) n * wH (fl dC (i 0).val) (i 3).val (64 * (i 1).val + (i 2).val) n)
      * wH (fl dX (i 0).val) (i 3).val (64 * (i 1).val + s) (i 4).val : ℝ) : EReal) := by
  rw [val_main_v20_apply, val_main_v19_apply, ← coe_sum_fin 64]
  refine sum_congr rfl fun k _ => ?_
  rw [v0_real hx, v18_real ha hb hc, mul_comm, ← EReal.coe_mul]

include hx hb in
/-- What a block's rows add to the states. -/
theorem v29_real (i : S4x64x16x64x64.Idx) :
    val_main_v29 (F := Ideal) x0 x2 x3 i = ((∑ l ∈ range 64, Real.exp (loc (aH (dA (i 0).val) (i 2).val) (64 * (i 1).val) 63
        - loc (aH (dA (i 0).val) (i 2).val) (64 * (i 1).val) l) * wH (fl dX (i 0).val) (i 2).val (64 * (i 1).val + l) (i 3).val
        * wH (fl dB (i 0).val) (i 2).val (64 * (i 1).val + l) (i 4).val : ℝ) : EReal) := by
  rw [val_main_v29_apply, ← coe_sum_fin 64]
  refine sum_congr rfl fun k _ => ?_
  rw [v0_real hx, val_main_v28_apply, v3_real hb, v27_real ha]
  refine (congrArg _ (EReal.coe_mul _ _).symm).trans ((EReal.coe_mul _ _).symm.trans (congrArg _ ?_))
  show wH (fl dX (i 0).val) (i 2).val (64 * (i 1).val + k.val) (i 3).val * (wH (fl dB (i 0).val) (i 2).val (64 * (i 1).val + k.val) (i 4).val
    * Real.exp (loc (aH (dA (i 0).val) (i 2).val) (64 * (i 1).val) 63 - loc (aH (dA (i 0).val) (i 2).val) (64 * (i 1).val) k.val)) = _
  ring

include hx hb hs in
/-- The initial states, and what each block adds. -/
theorem v30_real (i : S4x65x16x64x64.Idx) :
    val_main_v30 (F := Ideal) x0 x1 x2 x3 i = bstateE (aH (dA (i 0).val) (i 2).val) (wH (fl dX (i 0).val) (i 2).val) (wH (fl dB (i 0).val) (i 2).val)
      (dI (i 0).val (i 2).val) (i 1).val (i 3).val (i 4).val := by
  have b1 : (i 1).val < 65 := (i 1).isLt
  unfold val_main_v30
  by_cases hz : (i 1).val = 0
  · refine (concatenate_pair_apply_left (s₁ := S4x1x16x64x64) (s₂ := S4x64x16x64x64) _ _ _ _ i rfl (ix5 (i 0) 0 (i 2) (i 3) (i 4)) (fun a => ?_)).trans ?_
    · match a with
      | ⟨0, _⟩ => rfl
      | ⟨1, _⟩ => exact hz.symm
      | ⟨2, _⟩ => rfl
      | ⟨3, _⟩ => rfl
      | ⟨4, _⟩ => rfl
    · rw [hs, hz]
      rfl
  · obtain ⟨u, hu⟩ : ∃ u, (i 1).val = u + 1 := ⟨(i 1).val - 1, by omega⟩
    refine (concatenate_pair_apply_right (s₁ := S4x1x16x64x64) (s₂ := S4x64x16x64x64) _ _ _ _ i rfl rfl (ix5 (i 0) ⟨u, by omega⟩ (i 2) (i 3) (i 4)) (fun a ha' => ?_) ?_).trans ?_
    · match a with
      | ⟨0, _⟩ => rfl
      | ⟨1, _⟩ => exact absurd rfl ha'
      | ⟨2, _⟩ => rfl
      | ⟨3, _⟩ => rfl
      | ⟨4, _⟩ => rfl
    · exact hu.symm
    · rw [v29_real ha hx hb, hu]
      rfl

include hx hb hs in
/-- The states before each block. -/
theorem v46_real (i : S4x64x16x64x64.Idx) :
    val_main_v46 (F := Ideal) x0 x1 x2 x3 i = stateE (aH (dA (i 0).val) (i 2).val) (wH (fl dX (i 0).val) (i 2).val) (wH (fl dB (i 0).val) (i 2).val)
      (dI (i 0).val (i 2).val) (64 * (i 1).val) (i 3).val (i 4).val := by
  have b1 : (i 1).val < 64 := (i 1).isLt
  rw [val_main_v46_apply, val_main_v45_apply, val_main_v44_apply, ← combineE _ _ _ _ (show (i 1).val < 65 by omega)]
  refine sum_congr rfl fun k _ => ?_
  rw [v30_real ha hx hs hb, v43_real ha]

include hx hb hs hc in
/-- The reference's result is the scan's. -/
theorem v54_real (i : S4x64x64x16x64.Idx) :
    val_main_v54 (F := Ideal) x0 x1 x2 x3 x4 i = outE (aH (dA (i 0).val) (i 3).val) (wH (fl dX (i 0).val) (i 3).val) (wH (fl dB (i 0).val) (i 3).val)
      (wH (fl dC (i 0).val) (i 3).val) (dI (i 0).val (i 3).val) (64 * (i 1).val + (i 2).val) (i 4).val := by
  have b2 : (i 2).val < 64 := (i 2).isLt
  have e : val_main_v49 (F := Ideal) x0 x1 x2 x3 x4 i = ∑ n : Fin 64, ((wH (fl dC (i 0).val) (i 3).val (64 * (i 1).val + (i 2).val) n.val : ℝ) : EReal)
      * stateE (aH (dA (i 0).val) (i 3).val) (wH (fl dX (i 0).val) (i 3).val) (wH (fl dB (i 0).val) (i 3).val) (dI (i 0).val (i 3).val) (64 * (i 1).val) (i 4).val n.val := by
    rw [val_main_v49_apply, val_main_v48_apply]
    refine sum_congr rfl fun k _ => ?_
    rw [v46_real ha hx hs hb, v4_real hc, mul_comm]
  rw [val_main_v54_apply, v20_real ha hx hb hc, val_main_v53_apply, e, v52_real ha, ← blockedE _ _ _ _ _ _ b2]
  exact congrArg (HAdd.hAdd _) (mul_comm _ _)

include hx hb hs hc in
/-- The same in the result's own shape. -/
theorem v55_real (i : S4x4096x16x64.Idx) :
    val_main_v55 (F := Ideal) x0 x1 x2 x3 x4 i = resH dX dI dA dB dC (i 0).val (i 1).val (64 * (i 2).val + (i 3).val) := by
  have b0 : (i 0).val < 4 := (i 0).isLt
  have b1 : (i 1).val < 4096 := (i 1).isLt
  have b2 : (i 2).val < 16 := (i 2).isLt
  have b3 : (i 3).val < 64 := (i 3).isLt
  rw [val_main_v55_apply, v54_real ha hx hs hb hc]
  unfold resH outH
  have e0 : (idx_main_v55 i 0).val = (i 0).val := by simp only [idx_main_v55]; omega
  have e1 : 64 * (idx_main_v55 i 1).val + (idx_main_v55 i 2).val = (i 1).val := by simp only [idx_main_v55]; omega
  have e3 : (idx_main_v55 i 3).val = (i 2).val := by simp only [idx_main_v55]; omega
  have e4 : (idx_main_v55 i 4).val = (i 3).val := by simp only [idx_main_v55]; omega
  rw [e0, e1, e3, e4, show (64 * (i 2).val + (i 3).val) / 64 = (i 2).val by omega, show (64 * (i 2).val + (i 3).val) % 64 = (i 3).val by omega]

end Decay

end Cert.ReferenceIdeal.Real
end
-- ==== Proof.Fin.lean ====
module

public import proofs.«01_k».proof.Defs
public import proofs.«01_k».proof.Proof.Ref

@[expose] public section

noncomputable section

/-! The precondition: the elements of each argument but the initial states are real numbers. -/

namespace Cert.Scan

open Idealize.ShloMosaic Idealize.ShloMosaic.TcCoe Idealize.ShloMosaic.ValueIdx

/-- The side conditions the precondition states. -/
theorem finite_facts : Cert.Pre_finite.Facts where
  bcast_S_S4x4096x16x64 := by decide
  bcast_S_S4x4096x16 := by decide

/-- An element whose absolute value is below the infinity is a real number. -/
theorem real_of_below {x : EReal} (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have e : FloatOps.ofBits (F := Ideal) .f32 0x7F800000#32 = (⊤ : EReal) := by simp [Ideal.ofBits, Ideal.ieee]
  rw [e] at h
  have h' : BitVec.ofBool (decide (max x (-x) < (⊤ : EReal))) = 1#1 := h
  have h2 : max x (-x) < (⊤ : EReal) := by
    by_contra hn
    rw [decide_eq_false hn] at h'
    exact absurd h' (by decide)
  have hx := max_lt_iff.mp h2
  refine (EReal.coe_toReal hx.1.ne ?_).symm
  rintro rfl
  exact absurd hx.2 (by simp)

/-- An array of four axes of sizes `4, 4096, 16, 64` as a function of numbers. -/
def nums4 (x : (⟨4, ![4, 4096, 16, 64]⟩ : Shape).Idx → EReal) (b t h p : ℕ) : ℝ :=
  (x (ix4 ⟨b % 4, by omega⟩ ⟨t % 4096, by omega⟩ ⟨h % 16, by omega⟩ ⟨p % 64, by omega⟩)).toReal

/-- The initial states as a function of numbers. -/
def nums5 (x : (⟨5, ![4, 1, 16, 64, 64]⟩ : Shape).Idx → EReal) (b h p n : ℕ) : EReal :=
  x (ix5 ⟨b % 4, by omega⟩ ⟨0, by omega⟩ ⟨h % 16, by omega⟩ ⟨p % 64, by omega⟩ ⟨n % 64, by omega⟩)

/-- The decays as a function of numbers. -/
def nums3 (x : (⟨3, ![4, 4096, 16]⟩ : Shape).Idx → EReal) (b t h : ℕ) : ℝ :=
  (x (ix3 ⟨b % 4, by omega⟩ ⟨t % 4096, by omega⟩ ⟨h % 16, by omega⟩)).toReal

theorem nums4_eq {x : (⟨4, ![4, 4096, 16, 64]⟩ : Shape).Idx → EReal} (hx : ∀ i, x i = (((x i).toReal : ℝ) : EReal)) (i : (⟨4, ![4, 4096, 16, 64]⟩ : Shape).Idx) :
    x i = ((nums4 x (i 0).val (i 1).val (i 2).val (i 3).val : ℝ) : EReal) := by
  refine (hx i).trans ?_
  unfold nums4
  congr 3
  funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm
  | ⟨3, _⟩ => exact Fin.ext (Nat.mod_eq_of_lt (i 3).isLt).symm

theorem nums5_eq (x : (⟨5, ![4, 1, 16, 64, 64]⟩ : Shape).Idx → EReal) (i : (⟨5, ![4, 1, 16, 64, 64]⟩ : Shape).Idx) :
    x i = nums5 x (i 0).val (i 2).val (i 3).val (i 4).val := by
  unfold nums5
  congr 1
  funext a
  match a with
  | ⟨0, _⟩ => exact Fin.ext (Nat.mod_eq_of_lt (i 0).isLt).symm
  | ⟨1, _⟩ => exact Fin.ext (Nat.lt_one_iff.mp (i 1).isLt)
  | ⟨2, _⟩ => exact Fin.ext (Nat.mod_eq_of_lt (i 2).isLt).symm
  | ⟨3, _⟩ => exact Fin.ext (Nat.mod_eq_of_lt (i 3).isLt).symm
  | ⟨4, _⟩ => exact Fin.ext (Nat.mod_eq_of_lt (i 4).isLt).symm

theorem nums3_eq {x : (⟨3, ![4, 4096, 16]⟩ : Shape).Idx → EReal} (hx : ∀ i, x i = (((x i).toReal : ℝ) : EReal)) (i : (⟨3, ![4, 4096, 16]⟩ : Shape).Idx) :
    x i = ((nums3 x (i 0).val (i 1).val (i 2).val : ℝ) : EReal) := by
  refine (hx i).trans ?_
  unfold nums3
  congr 3
  funext a
  match a with
  | ⟨0, _⟩ => exact Fin.ext (Nat.mod_eq_of_lt (i 0).isLt).symm
  | ⟨1, _⟩ => exact Fin.ext (Nat.mod_eq_of_lt (i 1).isLt).symm
  | ⟨2, _⟩ => exact Fin.ext (Nat.mod_eq_of_lt (i 2).isLt).symm

open Cert.KernelIdeal in
/-- Under the precondition the arguments but the initial states hold real numbers. -/
theorem holds_of_finite (hF : Cert.Pre_finite.Facts) {m : (ℓ : Loc nD τ sig) → Buf (Elt Ideal) ℓ} (h : Cert.Pre_KernelIdeal_finite (hPre_finite := hF) m) (c : Dev nD) :
    Cert.KernelIdeal.Blk.Holds m c (nums4 (m ((c.tc : Thread nD τ).loc main_arg0))) (nums5 (m ((c.tc : Thread nD τ).loc main_arg1)))
      (nums3 (m ((c.tc : Thread nD τ).loc main_arg2))) (nums4 (m ((c.tc : Thread nD τ).loc main_arg3))) (nums4 (m ((c.tc : Thread nD τ).loc main_arg4))) := by
  obtain ⟨h0, h2, h3, h4⟩ := h c
  exact ⟨nums4_eq fun i => real_of_below (congrFun h0 i), nums5_eq _, nums3_eq fun i => real_of_below (congrFun h2 i),
    nums4_eq fun i => real_of_below (congrFun h3 i), nums4_eq fun i => real_of_below (congrFun h4 i)⟩

end Cert.Scan
end
-- ==== Proof.lean ====
/- The proof of the certificate's claim: the witnesses of the stated side conditions, the runs, and the
   equation of the two results, each of which is the array of the scan's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Fin
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe Cert.Scan

/-- The reference runs, its arguments end unchanged, and every counter ends at zero. -/
theorem reference_frame : Cert.quiescent_ReferenceIdeal (hReferenceIdeal := Cert.ReferenceIdeal.Gen.facts) := by
  intro m g _
  exact θ_run_mono (Cert.ReferenceIdeal.Value.run m g) fun r h => ⟨fun c => (h c).2, sem_eq_zero_of_no_sems (by decide) r.2⟩

/-- The value claim: both programs end with the array of the scan's results. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  have H := fun c => holds_of_finite finite_facts hpre c
  refine ⟨fun c => fun i : Cert.KernelIdeal.S4x4096x16x64.Idx => Cert.KernelIdeal.Blk.resH (nums4 (m ((c.tc : Thread Cert.KernelIdeal.nD Cert.KernelIdeal.τ).loc Cert.KernelIdeal.main_arg0)))
    (nums5 (m ((c.tc : Thread Cert.KernelIdeal.nD Cert.KernelIdeal.τ).loc Cert.KernelIdeal.main_arg1))) (nums3 (m ((c.tc : Thread Cert.KernelIdeal.nD Cert.KernelIdeal.τ).loc Cert.KernelIdeal.main_arg2)))
    (nums4 (m ((c.tc : Thread Cert.KernelIdeal.nD Cert.KernelIdeal.τ).loc Cert.KernelIdeal.main_arg3))) (nums4 (m ((c.tc : Thread Cert.KernelIdeal.nD Cert.KernelIdeal.τ).loc Cert.KernelIdeal.main_arg4)))
    (i 0).val (i 1).val (64 * (i 2).val + (i 3).val), θ_run_mono (θ_run_and (Cert.KernelIdeal.Gen.frame m g) (Cert.KernelIdeal.Blk.run_real g))
    fun r h c => ⟨funext fun i => h.2 c _ _ _ _ _ (H c) i, h.1.1 c⟩, θ_run_mono (Cert.ReferenceIdeal.Value.run m' g') fun r h c => ⟨?_, (h c).2⟩⟩
  obtain ⟨e0, e1, e2, e3, e4⟩ := hagree c
  refine (h c).1.trans ((Cert.ReferenceIdeal.Read.val_main_v55_eq m' c).trans ?_)
  rw [e0, e1, e2, e3, e4]
  exact funext fun i => Cert.ReferenceIdeal.Real.v55_real (H c).a (H c).x (H c).s (H c).b (H c).c i

theorem claim : Cert.Claim := ⟨Cert.Kernel.Gen.facts, Cert.KernelIdeal.Gen.facts, Cert.ReferenceIdeal.Gen.facts, finite_facts,
  fun m g _ => Cert.Kernel.Gen.frame m g, fun m g _ => Cert.KernelIdeal.Gen.frame m g, fun m g _ => Cert.KernelIdeal.Gen.frame m g,
  fun m g _ => reference_frame m g trivial, fun m g _ => reference_frame m g trivial, trivial, algebraic⟩

end Cert.Proof

end
